-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S4x256x512 : Shape := ⟨3, ![4, 256, 512]⟩
abbrev S2x4 : Shape := ⟨2, ![2, 4]⟩
abbrev S_ : Shape := ⟨0, ![]⟩
abbrev S1x1 : Shape := ⟨2, ![1, 1]⟩
abbrev S1x128x512 : Shape := ⟨3, ![1, 128, 512]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S4x256x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_31 : BitVec 32) (c0_i32_38 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.addi v2 c2_i32_31
  let c4_i32_32 : BitVec 32 := 4#32
  let c0_i32_33 : BitVec 32 := 0#32
  let v49 : BitVec 1 := Scalar.cmpi .eq c4_i32_32 c0_i32_33
  let c1_i32_34 : BitVec 32 := 1#32
  let v50 : BitVec 32 := Scalar.select v49 c1_i32_34 c4_i32_32
  let v51 : BitVec 32 := Scalar.remsi v48 v50
  let c0_i32_36 : BitVec 32 := 0#32
  let v53 : BitVec 1 := Scalar.cmpi .slt v51 c0_i32_36
  let c0_i32_37 : BitVec 32 := 0#32
  let v54 : BitVec 1 := Scalar.cmpi .slt v50 c0_i32_37
  let v55 : BitVec 1 := Scalar.xori v53 v54
  let c0_i32_35 : BitVec 32 := 0#32
  let v52 : BitVec 1 := Scalar.cmpi .ne v51 c0_i32_35
  let v56 : BitVec 1 := Scalar.andi v55 v52
  let v57 : BitVec 32 := Scalar.addi v51 v50
  let v58 : BitVec 32 := Scalar.select v56 v57 v51
  let c256_i32 : BitVec 32 := 256#32
  let v59 : BitVec 32 := Scalar.muli v58 c256_i32
  let v60 : BitVec 32 := Scalar.addi v59 c0_i32_38
  let c0_i32_48 : BitVec 32 := 0#32
  ![v60.toNat, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v48 : BitVec 32 := Scalar.addi v2 c2_i32_31
  let c4_i32_32 : BitVec 32 := 4#32
  let c0_i32_33 : BitVec 32 := 0#32
  let v49 : BitVec 1 := Scalar.cmpi .eq c4_i32_32 c0_i32_33
  let c1_i32_34 : BitVec 32 := 1#32
  let v50 : BitVec 32 := Scalar.select v49 c1_i32_34 c4_i32_32
  let v51 : BitVec 32 := Scalar.remsi v48 v50
  let c0_i32_36 : BitVec 32 := 0#32
  let v53 : BitVec 1 := Scalar.cmpi .slt v51 c0_i32_36
  let c0_i32_37 : BitVec 32 := 0#32
  let v54 : BitVec 1 := Scalar.cmpi .slt v50 c0_i32_37
  let v55 : BitVec 1 := Scalar.xori v53 v54
  let c0_i32_35 : BitVec 32 := 0#32
  let v52 : BitVec 1 := Scalar.cmpi .ne v51 c0_i32_35
  let v56 : BitVec 1 := Scalar.andi v55 v52
  let v57 : BitVec 32 := Scalar.addi v51 v50
  let v58 : BitVec 32 := Scalar.select v56 v57 v51
  let c1_i32_44 : BitVec 32 := 1#32
  let v61 : BitVec 32 := Scalar.muli v58 c1_i32_44
  let v62 : BitVec 32 := Scalar.addi c0_i32_45 v61
  v62.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v70 : BitVec 32 := Scalar.addi v2 c1_i32_49
  let c4_i32_50 : BitVec 32 := 4#32
  let c0_i32_51 : BitVec 32 := 0#32
  let v71 : BitVec 1 := Scalar.cmpi .eq c4_i32_50 c0_i32_51
  let c1_i32_52 : BitVec 32 := 1#32
  let v72 : BitVec 32 := Scalar.select v71 c1_i32_52 c4_i32_50
  let v73 : BitVec 32 := Scalar.remsi v70 v72
  let c0_i32_54 : BitVec 32 := 0#32
  let v75 : BitVec 1 := Scalar.cmpi .slt v73 c0_i32_54
  let c0_i32_55 : BitVec 32 := 0#32
  let v76 : BitVec 1 := Scalar.cmpi .slt v72 c0_i32_55
  let v77 : BitVec 1 := Scalar.xori v75 v76
  let c0_i32_53 : BitVec 32 := 0#32
  let v74 : BitVec 1 := Scalar.cmpi .ne v73 c0_i32_53
  let v78 : BitVec 1 := Scalar.andi v77 v74
  let v79 : BitVec 32 := Scalar.addi v73 v72
  let v80 : BitVec 32 := Scalar.select v78 v79 v73
  let c1_i32_63 : BitVec 32 := 1#32
  let v83 : BitVec 32 := Scalar.muli v80 c1_i32_63
  let v84 : BitVec 32 := Scalar.addi c0_i32_64 v83
  v84.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_68 : BitVec 32 := 3#32
  let v92 : BitVec 32 := Scalar.addi v2 c3_i32_68
  let c4_i32_69 : BitVec 32 := 4#32
  let c0_i32_70 : BitVec 32 := 0#32
  let v93 : BitVec 1 := Scalar.cmpi .eq c4_i32_69 c0_i32_70
  let c1_i32_71 : BitVec 32 := 1#32
  let v94 : BitVec 32 := Scalar.select v93 c1_i32_71 c4_i32_69
  let v95 : BitVec 32 := Scalar.remsi v92 v94
  let c0_i32_73 : BitVec 32 := 0#32
  let v97 : BitVec 1 := Scalar.cmpi .slt v95 c0_i32_73
  let c0_i32_74 : BitVec 32 := 0#32
  let v98 : BitVec 1 := Scalar.cmpi .slt v94 c0_i32_74
  let v99 : BitVec 1 := Scalar.xori v97 v98
  let c0_i32_72 : BitVec 32 := 0#32
  let v96 : BitVec 1 := Scalar.cmpi .ne v95 c0_i32_72
  let v100 : BitVec 1 := Scalar.andi v99 v96
  let v101 : BitVec 32 := Scalar.addi v95 v94
  let v102 : BitVec 32 := Scalar.select v100 v101 v95
  let c1_i32_82 : BitVec 32 := 1#32
  let v105 : BitVec 32 := Scalar.muli v102 c1_i32_82
  let v106 : BitVec 32 := Scalar.addi c0_i32_83 v105
  v106.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_87 : BitVec 32 := 2#32
  let v114 : BitVec 32 := Scalar.addi v2 c2_i32_87
  let c4_i32_88 : BitVec 32 := 4#32
  let c0_i32_89 : BitVec 32 := 0#32
  let v115 : BitVec 1 := Scalar.cmpi .eq c4_i32_88 c0_i32_89
  let c1_i32_90 : BitVec 32 := 1#32
  let v116 : BitVec 32 := Scalar.select v115 c1_i32_90 c4_i32_88
  let v117 : BitVec 32 := Scalar.remsi v114 v116
  let c0_i32_92 : BitVec 32 := 0#32
  let v119 : BitVec 1 := Scalar.cmpi .slt v117 c0_i32_92
  let c0_i32_93 : BitVec 32 := 0#32
  let v120 : BitVec 1 := Scalar.cmpi .slt v116 c0_i32_93
  let v121 : BitVec 1 := Scalar.xori v119 v120
  let c0_i32_91 : BitVec 32 := 0#32
  let v118 : BitVec 1 := Scalar.cmpi .ne v117 c0_i32_91
  let v122 : BitVec 1 := Scalar.andi v121 v118
  let v123 : BitVec 32 := Scalar.addi v117 v116
  let v124 : BitVec 32 := Scalar.select v122 v123 v117
  let c1_i32_100 : BitVec 32 := 1#32
  let v127 : BitVec 32 := Scalar.muli v124 c1_i32_100
  let v128 : BitVec 32 := Scalar.addi c0_i32_101 v127
  v128.toNat
def k0_dev8 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_105 : BitVec 32 := 1#32
  let v136 : BitVec 32 := Scalar.addi v2 c1_i32_105
  let c4_i32_106 : BitVec 32 := 4#32
  let c0_i32_107 : BitVec 32 := 0#32
  let v137 : BitVec 1 := Scalar.cmpi .eq c4_i32_106 c0_i32_107
  let c1_i32_108 : BitVec 32 := 1#32
  let v138 : BitVec 32 := Scalar.select v137 c1_i32_108 c4_i32_106
  let v139 : BitVec 32 := Scalar.remsi v136 v138
  let c0_i32_110 : BitVec 32 := 0#32
  let v141 : BitVec 1 := Scalar.cmpi .slt v139 c0_i32_110
  let c0_i32_111 : BitVec 32 := 0#32
  let v142 : BitVec 1 := Scalar.cmpi .slt v138 c0_i32_111
  let v143 : BitVec 1 := Scalar.xori v141 v142
  let c0_i32_109 : BitVec 32 := 0#32
  let v140 : BitVec 1 := Scalar.cmpi .ne v139 c0_i32_109
  let v144 : BitVec 1 := Scalar.andi v143 v140
  let v145 : BitVec 32 := Scalar.addi v139 v138
  let v146 : BitVec 32 := Scalar.select v144 v145 v139
  let c1_i32_119 : BitVec 32 := 1#32
  let v149 : BitVec 32 := Scalar.muli v146 c1_i32_119
  let v150 : BitVec 32 := Scalar.addi c0_i32_120 v149
  v150.toNat
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_124 : BitVec 32 := 3#32
  let v158 : BitVec 32 := Scalar.addi v2 c3_i32_124
  let c4_i32_125 : BitVec 32 := 4#32
  let c0_i32_126 : BitVec 32 := 0#32
  let v159 : BitVec 1 := Scalar.cmpi .eq c4_i32_125 c0_i32_126
  let c1_i32_127 : BitVec 32 := 1#32
  let v160 : BitVec 32 := Scalar.select v159 c1_i32_127 c4_i32_125
  let v161 : BitVec 32 := Scalar.remsi v158 v160
  let c0_i32_129 : BitVec 32 := 0#32
  let v163 : BitVec 1 := Scalar.cmpi .slt v161 c0_i32_129
  let c0_i32_130 : BitVec 32 := 0#32
  let v164 : BitVec 1 := Scalar.cmpi .slt v160 c0_i32_130
  let v165 : BitVec 1 := Scalar.xori v163 v164
  let c0_i32_128 : BitVec 32 := 0#32
  let v162 : BitVec 1 := Scalar.cmpi .ne v161 c0_i32_128
  let v166 : BitVec 1 := Scalar.andi v165 v162
  let v167 : BitVec 32 := Scalar.addi v161 v160
  let v168 : BitVec 32 := Scalar.select v166 v167 v161
  let c1_i32_138 : BitVec 32 := 1#32
  let v171 : BitVec 32 := Scalar.muli v168 c1_i32_138
  let v172 : BitVec 32 := Scalar.addi c0_i32_139 v171
  v172.toNat
def k0_off2 (d0 : Dev nD) (c0_i32_201 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_200 : BitVec 32 := 256#32
  let v216 : BitVec 32 := Scalar.muli v2 c256_i32_200
  let v217 : BitVec 32 := Scalar.addi v216 c0_i32_201
  let v218 : Index := Scalar.indexCast v217
  let c0_202 : Index := 0#32
  ![v218.toNat, 0]
def k0_off3 (d0 : Dev nD) (c0_i32_201 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_200 : BitVec 32 := 256#32
  let v216 : BitVec 32 := Scalar.muli v2 c256_i32_200
  let v217 : BitVec 32 := Scalar.addi v216 c0_i32_201
  let c0_i32_223 : BitVec 32 := 0#32
  ![v217.toNat, 0]
def k0_dev10 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_210 : BitVec 32 := 2#32
  let v237 : BitVec 32 := Scalar.addi v2 c2_i32_210
  let c4_i32_211 : BitVec 32 := 4#32
  let c0_i32_212 : BitVec 32 := 0#32
  let v238 : BitVec 1 := Scalar.cmpi .eq c4_i32_211 c0_i32_212
  let c1_i32_213 : BitVec 32 := 1#32
  let v239 : BitVec 32 := Scalar.select v238 c1_i32_213 c4_i32_211
  let v240 : BitVec 32 := Scalar.remsi v237 v239
  let c0_i32_215 : BitVec 32 := 0#32
  let v242 : BitVec 1 := Scalar.cmpi .slt v240 c0_i32_215
  let c0_i32_216 : BitVec 32 := 0#32
  let v243 : BitVec 1 := Scalar.cmpi .slt v239 c0_i32_216
  let v244 : BitVec 1 := Scalar.xori v242 v243
  let c0_i32_214 : BitVec 32 := 0#32
  let v241 : BitVec 1 := Scalar.cmpi .ne v240 c0_i32_214
  let v245 : BitVec 1 := Scalar.andi v244 v241
  let v246 : BitVec 32 := Scalar.addi v240 v239
  let v247 : BitVec 32 := Scalar.select v245 v246 v240
  let c1_i32_221 : BitVec 32 := 1#32
  let v248 : BitVec 32 := Scalar.muli v247 c1_i32_221
  let v249 : BitVec 32 := Scalar.addi c0_i32_222 v248
  v249.toNat
def k0_dev11 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_225 : BitVec 32 := 1#32
  let v256 : BitVec 32 := Scalar.addi v2 c1_i32_225
  let c4_i32_226 : BitVec 32 := 4#32
  let c0_i32_227 : BitVec 32 := 0#32
  let v257 : BitVec 1 := Scalar.cmpi .eq c4_i32_226 c0_i32_227
  let c1_i32_228 : BitVec 32 := 1#32
  let v258 : BitVec 32 := Scalar.select v257 c1_i32_228 c4_i32_226
  let v259 : BitVec 32 := Scalar.remsi v256 v258
  let c0_i32_230 : BitVec 32 := 0#32
  let v261 : BitVec 1 := Scalar.cmpi .slt v259 c0_i32_230
  let c0_i32_231 : BitVec 32 := 0#32
  let v262 : BitVec 1 := Scalar.cmpi .slt v258 c0_i32_231
  let v263 : BitVec 1 := Scalar.xori v261 v262
  let c0_i32_229 : BitVec 32 := 0#32
  let v260 : BitVec 1 := Scalar.cmpi .ne v259 c0_i32_229
  let v264 : BitVec 1 := Scalar.andi v263 v260
  let v265 : BitVec 32 := Scalar.addi v259 v258
  let v266 : BitVec 32 := Scalar.select v264 v265 v259
  let c1_i32_236 : BitVec 32 := 1#32
  let v267 : BitVec 32 := Scalar.muli v266 c1_i32_236
  let v268 : BitVec 32 := Scalar.addi c0_i32_237 v267
  v268.toNat
def k0_dev12 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_240 : BitVec 32 := 3#32
  let v275 : BitVec 32 := Scalar.addi v2 c3_i32_240
  let c4_i32_241 : BitVec 32 := 4#32
  let c0_i32_242 : BitVec 32 := 0#32
  let v276 : BitVec 1 := Scalar.cmpi .eq c4_i32_241 c0_i32_242
  let c1_i32_243 : BitVec 32 := 1#32
  let v277 : BitVec 32 := Scalar.select v276 c1_i32_243 c4_i32_241
  let v278 : BitVec 32 := Scalar.remsi v275 v277
  let c0_i32_245 : BitVec 32 := 0#32
  let v280 : BitVec 1 := Scalar.cmpi .slt v278 c0_i32_245
  let c0_i32_246 : BitVec 32 := 0#32
  let v281 : BitVec 1 := Scalar.cmpi .slt v277 c0_i32_246
  let v282 : BitVec 1 := Scalar.xori v280 v281
  let c0_i32_244 : BitVec 32 := 0#32
  let v279 : BitVec 1 := Scalar.cmpi .ne v278 c0_i32_244
  let v283 : BitVec 1 := Scalar.andi v282 v279
  let v284 : BitVec 32 := Scalar.addi v278 v277
  let v285 : BitVec 32 := Scalar.select v283 v284 v278
  let c1_i32_251 : BitVec 32 := 1#32
  let v286 : BitVec 32 := Scalar.muli v285 c1_i32_251
  let v287 : BitVec 32 := Scalar.addi c0_i32_252 v286
  v287.toNat
def k0_dev13 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_324 : BitVec 32 := 2#32
  let v351 : BitVec 32 := Scalar.addi v2 c2_i32_324
  let c4_i32_325 : BitVec 32 := 4#32
  let c0_i32_326 : BitVec 32 := 0#32
  let v352 : BitVec 1 := Scalar.cmpi .eq c4_i32_325 c0_i32_326
  let c1_i32_327 : BitVec 32 := 1#32
  let v353 : BitVec 32 := Scalar.select v352 c1_i32_327 c4_i32_325
  let v354 : BitVec 32 := Scalar.remsi v351 v353
  let c0_i32_329 : BitVec 32 := 0#32
  let v356 : BitVec 1 := Scalar.cmpi .slt v354 c0_i32_329
  let c0_i32_330 : BitVec 32 := 0#32
  let v357 : BitVec 1 := Scalar.cmpi .slt v353 c0_i32_330
  let v358 : BitVec 1 := Scalar.xori v356 v357
  let c0_i32_328 : BitVec 32 := 0#32
  let v355 : BitVec 1 := Scalar.cmpi .ne v354 c0_i32_328
  let v359 : BitVec 1 := Scalar.andi v358 v355
  let v360 : BitVec 32 := Scalar.addi v354 v353
  let v361 : BitVec 32 := Scalar.select v359 v360 v354
  let c1_i32_335 : BitVec 32 := 1#32
  let v362 : BitVec 32 := Scalar.muli v361 c1_i32_335
  let v363 : BitVec 32 := Scalar.addi c0_i32_336 v362
  v363.toNat
def k0_dev14 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_339 : BitVec 32 := 1#32
  let v370 : BitVec 32 := Scalar.addi v2 c1_i32_339
  let c4_i32_340 : BitVec 32 := 4#32
  let c0_i32_341 : BitVec 32 := 0#32
  let v371 : BitVec 1 := Scalar.cmpi .eq c4_i32_340 c0_i32_341
  let c1_i32_342 : BitVec 32 := 1#32
  let v372 : BitVec 32 := Scalar.select v371 c1_i32_342 c4_i32_340
  let v373 : BitVec 32 := Scalar.remsi v370 v372
  let c0_i32_344 : BitVec 32 := 0#32
  let v375 : BitVec 1 := Scalar.cmpi .slt v373 c0_i32_344
  let c0_i32_345 : BitVec 32 := 0#32
  let v376 : BitVec 1 := Scalar.cmpi .slt v372 c0_i32_345
  let v377 : BitVec 1 := Scalar.xori v375 v376
  let c0_i32_343 : BitVec 32 := 0#32
  let v374 : BitVec 1 := Scalar.cmpi .ne v373 c0_i32_343
  let v378 : BitVec 1 := Scalar.andi v377 v374
  let v379 : BitVec 32 := Scalar.addi v373 v372
  let v380 : BitVec 32 := Scalar.select v378 v379 v373
  let c1_i32_350 : BitVec 32 := 1#32
  let v381 : BitVec 32 := Scalar.muli v380 c1_i32_350
  let v382 : BitVec 32 := Scalar.addi c0_i32_351 v381
  v382.toNat
def k0_dev15 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_354 : BitVec 32 := 3#32
  let v389 : BitVec 32 := Scalar.addi v2 c3_i32_354
  let c4_i32_355 : BitVec 32 := 4#32
  let c0_i32_356 : BitVec 32 := 0#32
  let v390 : BitVec 1 := Scalar.cmpi .eq c4_i32_355 c0_i32_356
  let c1_i32_357 : BitVec 32 := 1#32
  let v391 : BitVec 32 := Scalar.select v390 c1_i32_357 c4_i32_355
  let v392 : BitVec 32 := Scalar.remsi v389 v391
  let c0_i32_359 : BitVec 32 := 0#32
  let v394 : BitVec 1 := Scalar.cmpi .slt v392 c0_i32_359
  let c0_i32_360 : BitVec 32 := 0#32
  let v395 : BitVec 1 := Scalar.cmpi .slt v391 c0_i32_360
  let v396 : BitVec 1 := Scalar.xori v394 v395
  let c0_i32_358 : BitVec 32 := 0#32
  let v393 : BitVec 1 := Scalar.cmpi .ne v392 c0_i32_358
  let v397 : BitVec 1 := Scalar.andi v396 v393
  let v398 : BitVec 32 := Scalar.addi v392 v391
  let v399 : BitVec 32 := Scalar.select v397 v398 v392
  let c1_i32_365 : BitVec 32 := 1#32
  let v400 : BitVec 32 := Scalar.muli v399 c1_i32_365
  let v401 : BitVec 32 := Scalar.addi c0_i32_366 v400
  v401.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x1024x512, .bf16⟩
  | .hbm, ⟨2, _⟩ => ⟨S4x1024x512, .f32⟩
  | .hbm, ⟨3, _⟩ => ⟨S_, .f32⟩
  | .hbm, ⟨4, _⟩ => ⟨S1024x512, .f32⟩
  | .hbm, ⟨5, _⟩ => ⟨S1024x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Cells.lean ====
/-
The names the proof of the four-device all-reduce speaks in.

Four devices each hold a 1024×512 array. The rows fall into four blocks of 256, one per device, each block into two
segments of 128. Every device sends segment `r` of block `c + j` of its own array to device `c + j`, for `j = 1, 2, 3`;
adds what it receives to its own block `c`; and sends the sum, segment by segment, to the three others.

This module has the devices and the shifts between them, the rectangles and memrefs of one segment in the three buffers
involved, and the semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.ValueLayout
public import Idealize.ShloMosaic.Lib.Tactic

@[expose] public section

set_option maxRecDepth 16384

noncomputable section

namespace Cert.AllReduce

open Cert.KernelIdeal Cert.KernelIdeal.Gen
open Idealize.ShloMosaic Idealize.ShloMosaic.TcCoe Idealize.ShloMosaic.ValueIdx

/-! ## Devices -/

set_option backward.proofsInPublic true in
/-- The device `j` places after `c`. -/
def up (c : Dev nD) (j : Fin 4) : Dev nD := ⟨(c.val + j.val) % 4, Nat.mod_lt _ (by decide)⟩
set_option backward.proofsInPublic true in
/-- The shift that undoes `j`. -/
def neg (j : Fin 4) : Fin 4 := ⟨(4 - j.val) % 4, Nat.mod_lt _ (by decide)⟩
/-- The device `j` places before `c`. -/
def dn (c : Dev nD) (j : Fin 4) : Dev nD := up c (neg j)

theorem up_zero : ∀ c : Dev nD, up c 0 = c := by decide
theorem up_up_neg : ∀ (c : Dev nD) (j : Fin 4), up (up c j) (neg j) = c := by decide
theorem up_neg_up : ∀ (c : Dev nD) (j : Fin 4), up (up c (neg j)) j = c := by decide
theorem dn_up (c : Dev nD) (j : Fin 4) : dn (up c j) j = c := up_up_neg c j
theorem up_dn (c : Dev nD) (j : Fin 4) : up (dn c j) j = c := up_neg_up c j
theorem neg_neg : ∀ j : Fin 4, neg (neg j) = j := by decide
theorem neg_ne_zero : ∀ j : Fin 4, j ≠ 0 → neg j ≠ 0 := by decide
theorem up_inj : ∀ (c : Dev nD) (j i : Fin 4), up c j = up c i → j = i := by decide
theorem up_surj : ∀ c b : Dev nD, ∃ j : Fin 4, up c j = b := by decide

/-- Moving every device by `j` places permutes them. -/
def shift (j : Fin 4) : Dev nD ≃ Dev nD := ⟨fun c => up c j, fun c => up c (neg j), fun c => up_up_neg c j, fun c => up_neg_up c j⟩

/-! The devices the kernel's signals and transfers address. -/

theorem dev1_eq : ∀ c : Dev nD, (⟨k0_dev1 c, k0_dev1_lt c⟩ : Dev nD) = up c 1 := by decide +kernel
theorem dev2_eq : ∀ c : Dev nD, (⟨k0_dev2 c, k0_dev2_lt c⟩ : Dev nD) = up c 2 := by decide +kernel
theorem dev3_eq : ∀ c : Dev nD, (⟨k0_dev3 c, k0_dev3_lt c⟩ : Dev nD) = up c 3 := by decide +kernel
theorem dev4_eq : ∀ c : Dev nD, (⟨k0_dev4 c, k0_dev4_lt c⟩ : Dev nD) = up c 2 := by decide +kernel
theorem dev5_eq : ∀ c : Dev nD, (⟨k0_dev5 c, k0_dev5_lt c⟩ : Dev nD) = up c 1 := by decide +kernel
theorem dev6_eq : ∀ c : Dev nD, (⟨k0_dev6 c, k0_dev6_lt c⟩ : Dev nD) = up c 3 := by decide +kernel
theorem dev7_eq : ∀ c : Dev nD, (⟨k0_dev7 c, k0_dev7_lt c⟩ : Dev nD) = up c 2 := by decide +kernel
theorem dev8_eq : ∀ c : Dev nD, (⟨k0_dev8 c, k0_dev8_lt c⟩ : Dev nD) = up c 1 := by decide +kernel
theorem dev9_eq : ∀ c : Dev nD, (⟨k0_dev9 c, k0_dev9_lt c⟩ : Dev nD) = up c 3 := by decide +kernel
theorem dev10_eq : ∀ c : Dev nD, (⟨k0_dev10 c, k0_dev10_lt c⟩ : Dev nD) = up c 2 := by decide +kernel
theorem dev11_eq : ∀ c : Dev nD, (⟨k0_dev11 c, k0_dev11_lt c⟩ : Dev nD) = up c 1 := by decide +kernel
theorem dev12_eq : ∀ c : Dev nD, (⟨k0_dev12 c, k0_dev12_lt c⟩ : Dev nD) = up c 3 := by decide +kernel
theorem dev13_eq : ∀ c : Dev nD, (⟨k0_dev13 c, k0_dev13_lt c⟩ : Dev nD) = up c 2 := by decide +kernel
theorem dev14_eq : ∀ c : Dev nD, (⟨k0_dev14 c, k0_dev14_lt c⟩ : Dev nD) = up c 1 := by decide +kernel
theorem dev15_eq : ∀ c : Dev nD, (⟨k0_dev15 c, k0_dev15_lt c⟩ : Dev nD) = up c 3 := by decide +kernel

/-! ## One segment of a block of rows -/

/-- The first element of segment `r` of row block `b`. -/
abbrev rowOff (b : Dev nD) (r : Fin 2) : Fin 2 → Nat := ![256 * b.val + 128 * r.val, 0]
/-- The first element of segment `r` of slot `j` of the receive buffer. -/
abbrev slotOff (j : Fin 4) (r : Fin 2) : Fin 3 → Nat := ![j.val, 128 * r.val, 0]

theorem rowOff_inb (b : Dev nD) (r : Fin 2) : ∀ a, rowOff b r a + S128x512.size a ≤ S1024x512.size a := by
  have hb : b.val < 4 := b.isLt
  have hr := r.isLt
  intro a; fin_cases a
  · show 256 * b.val + 128 * r.val + 128 ≤ 1024; omega
  · exact Nat.le_refl _
theorem slotOff_inb (j : Fin 4) (r : Fin 2) : ∀ a, slotOff j r a + S1x128x512.size a ≤ S4x256x512.size a := by
  have hj := j.isLt
  have hr := r.isLt
  intro a; fin_cases a
  · show j.val + 1 ≤ 4; omega
  · show 128 * r.val + 128 ≤ 256; omega
  · exact Nat.le_refl _

/-- Segment `r` of row block `b` of a 1024×512 buffer. -/
abbrev rowRect (b : Dev nD) (r : Fin 2) : Rect S1024x512 := Rect.unit (s := S1024x512) (rowOff b r) S128x512.size (rowOff_inb b r)
/-- Segment `r` of slot `j` of the receive buffer. -/
abbrev slotRect (j : Fin 4) (r : Fin 2) : Rect S4x256x512 := Rect.unit (s := S4x256x512) (slotOff j r) S1x128x512.size (slotOff_inb j r)

/-- The buffers: the input block, the result, the copy sent from, the receive buffer. -/
abbrev inM : Memref sig .tc .vmem S1024x512 .bf16 := Memref.whole cc0_stg0_0
abbrev outM : Memref sig .tc .vmem S1024x512 .bf16 := Memref.whole cc0_stg1_0
abbrev xbM : Memref sig .tc .vmem S1024x512 .bf16 := Memref.whole cc0_scratch0
abbrev rsM : Memref sig .tc .vmem S4x256x512 .bf16 := Memref.whole cc0_scratch1

/-- Segment memrefs of the copy, the result and the receive buffer. -/
abbrev xbSeg (b : Dev nD) (r : Fin 2) : Memref sig .tc .vmem S128x512 .bf16 := xbM.slice (rowRect b r) (fun _ => rfl)
abbrev outSeg (b : Dev nD) (r : Fin 2) : Memref sig .tc .vmem S128x512 .bf16 := outM.slice (rowRect b r) (fun _ => rfl)
abbrev rsSeg (j : Fin 4) (r : Fin 2) : Memref sig .tc .vmem S128x512 .bf16 :=
  (rsM.slice (slotRect j r) (fun _ => rfl)).squeeze S128x512 squeezes_S1x128x512_S128x512

theorem set_xbSeg (b : Dev nD) (r : Fin 2) : (xbSeg b r).view.set = (rowRect b r).set := View.set_slice_whole cc0_scratch0 (rowRect b r)
theorem set_outSeg (b : Dev nD) (r : Fin 2) : (outSeg b r).view.set = (rowRect b r).set := View.set_slice_whole cc0_stg1_0 (rowRect b r)
theorem set_rsSeg (j : Fin 4) (r : Fin 2) : (rsSeg j r).view.set = (slotRect j r).set :=
  (View.set_reshape _ _).trans (View.set_slice_whole cc0_scratch1 (slotRect j r))

/-- The segments of a 1024×512 buffer, counted from device `c`'s own block, do not overlap -/
theorem rows_disjoint (c : Dev nD) (x y : Fin 2 × Fin 4) (h : x ≠ y) :
    Disjoint (rowRect (up c x.2) x.1).set (rowRect (up c y.2) y.1).set := by
  rw [Finset.disjoint_left]
  intro i hi hi'
  have h1 := (Rect.mem_set_unit.mp hi) 0
  have h2 := (Rect.mem_set_unit.mp hi') 0
  have e1 : 256 * (up c x.2).val + 128 * x.1.val ≤ (i 0).val ∧ (i 0).val < 256 * (up c x.2).val + 128 * x.1.val + 128 := h1
  have e2 : 256 * (up c y.2).val + 128 * y.1.val ≤ (i 0).val ∧ (i 0).val < 256 * (up c y.2).val + 128 * y.1.val + 128 := h2
  have hx := x.1.isLt
  have hy := y.1.isLt
  have eb : up c x.2 = up c y.2 := Fin.ext (by omega)
  have er : x.1 = y.1 := Fin.ext (by omega)
  exact h (Prod.ext er (up_inj c _ _ eb))

/-- and together they are all of it. -/
theorem rows_cover (c : Dev nD) : (Finset.univ.biUnion fun x : Fin 2 × Fin 4 => (rowRect (up c x.2) x.1).set) = Finset.univ := by
  refine Finset.eq_univ_iff_forall.mpr fun i => ?_
  have h0 : (i 0).val < 1024 := idx2_lt0 i
  have h1 : (i 1).val < 512 := idx2_lt1 i
  obtain ⟨j, hj⟩ := up_surj c ⟨(i 0).val / 256, by show _ < 4; omega⟩
  refine Finset.mem_biUnion.mpr ⟨(⟨(i 0).val % 256 / 128, by omega⟩, j), Finset.mem_univ _, ?_⟩
  rw [Rect.mem_set_unit]
  intro a
  fin_cases a
  · show 256 * (up c j).val + 128 * ((i 0).val % 256 / 128) ≤ (i 0).val ∧ (i 0).val < 256 * (up c j).val + 128 * ((i 0).val % 256 / 128) + 128
    rw [hj]
    show 256 * ((i 0).val / 256) + 128 * ((i 0).val % 256 / 128) ≤ (i 0).val ∧ (i 0).val < 256 * ((i 0).val / 256) + 128 * ((i 0).val % 256 / 128) + 128
    omega
  · show 0 ≤ (i 1).val ∧ (i 1).val < 0 + 512
    omega

/-- The segments of the receive buffer do not overlap -/
theorem slots_disjoint (x y : Fin 2 × Fin 4) (h : x ≠ y) : Disjoint (slotRect x.2 x.1).set (slotRect y.2 y.1).set := by
  rw [Finset.disjoint_left]
  intro i hi hi'
  have e1 : x.2.val ≤ (i 0).val ∧ (i 0).val < x.2.val + 1 := (Rect.mem_set_unit.mp hi) 0
  have e2 : y.2.val ≤ (i 0).val ∧ (i 0).val < y.2.val + 1 := (Rect.mem_set_unit.mp hi') 0
  have f1 : 128 * x.1.val ≤ (i 1).val ∧ (i 1).val < 128 * x.1.val + 128 := (Rect.mem_set_unit.mp hi) 1
  have f2 : 128 * y.1.val ≤ (i 1).val ∧ (i 1).val < 128 * y.1.val + 128 := (Rect.mem_set_unit.mp hi') 1
  exact h (Prod.ext (Fin.ext (by omega)) (Fin.ext (by omega)))

/-- and together they are all of it. -/
theorem slots_cover : (Finset.univ.biUnion fun x : Fin 2 × Fin 4 => (slotRect x.2 x.1).set) = Finset.univ := by
  refine Finset.eq_univ_iff_forall.mpr fun i => ?_
  have h0 : (i 0).val < 4 := (i 0).isLt
  have h1 : (i 1).val < 256 := (i 1).isLt
  have h2 : (i 2).val < 512 := (i 2).isLt
  refine Finset.mem_biUnion.mpr ⟨(⟨(i 1).val / 128, by omega⟩, ⟨(i 0).val, h0⟩), Finset.mem_univ _, ?_⟩
  rw [Rect.mem_set_unit]
  intro a
  fin_cases a
  · show (i 0).val ≤ (i 0).val ∧ (i 0).val < (i 0).val + 1
    omega
  · show 128 * ((i 1).val / 128) ≤ (i 1).val ∧ (i 1).val < 128 * ((i 1).val / 128) + 128
    omega
  · show 0 ≤ (i 2).val ∧ (i 2).val < 0 + 512
    omega

/-! ## The offsets the kernel's slices compute -/

theorem off1_eq : ∀ (c : Dev nD) (j : Fin 3) (r : Fin 2),
    k0_off1 c (BitVec.ofNat 32 (1 + j.val)) (BitVec.ofNat 32 (128 * r.val)) = ![256 * (up c j.succ).val + 128 * r.val, 0] := by decide +kernel
theorem off2_eq (c : Dev nD) (r : Fin 2) : k0_off2 c (BitVec.ofNat 32 (128 * r.val)) = rowOff c r := k0_off2_eq c r
theorem off3_eq (c : Dev nD) (r : Fin 2) : k0_off3 c (BitVec.ofNat 32 (128 * r.val)) = rowOff c r := k0_off3_eq c r

/-! ## Semaphores -/

/-- The barrier semaphore. -/
abbrev barS : Sem sig := (SemArray.scalar (sig.barrier 0 rfl) : Sems sig S_).sem

/-- The transfer semaphores, by segment `r`, shift `j` and role `a`: 0 the first exchange's send side, 1 its receive side,
    2 and 3 the second exchange's. -/
abbrev Chan : Type := (Fin 2 × Fin 4) × Fin 4
set_option backward.proofsInPublic true in
/-- The semaphore of role `a` for segment `r` and shift `j`. -/
def xsem (a : Fin 4) (r : Fin 2) (j : Fin 4) : DmaSem sig :=
  (⟨2 + 8 * a.val + 4 * r.val + j.val, by have := a.isLt; have := r.isLt; have := j.isLt; omega⟩ : Fin 34)

/-- What a transfer semaphore is: its role, segment and shift. -/
def roleOf (q : DmaSem sig) : Fin 4 := ⟨(q.val - 2) / 8 % 4, Nat.mod_lt _ (by decide)⟩
def segOf (q : DmaSem sig) : Fin 2 := ⟨(q.val - 2) / 4 % 2, Nat.mod_lt _ (by decide)⟩
def shiftOf (q : DmaSem sig) : Fin 4 := ⟨(q.val - 2) % 4, Nat.mod_lt _ (by decide)⟩

theorem roleOf_xsem : ∀ (a : Fin 4) (r : Fin 2) (j : Fin 4), roleOf (xsem a r j) = a := by decide
theorem segOf_xsem : ∀ (a : Fin 4) (r : Fin 2) (j : Fin 4), segOf (xsem a r j) = r := by decide
theorem shiftOf_xsem : ∀ (a : Fin 4) (r : Fin 2) (j : Fin 4), shiftOf (xsem a r j) = j := by decide
theorem two_le_xsem (a : Fin 4) (r : Fin 2) (j : Fin 4) : 2 ≤ (xsem a r j).val := by
  show 2 ≤ 2 + 8 * a.val + 4 * r.val + j.val; omega

/-- A device's semaphores of the exchange: the barrier's and the transfers'. -/
abbrev Kind : Type := Unit ⊕ Chan
abbrev csem : Kind → SemLoc sig
  | .inl _ => .reg barS
  | .inr x => .dma (xsem x.2 x.1.1 x.1.2)
abbrev kcell (ck : Dev nD × Kind) : GSem nD τ sig := ((ck.1 : Thread nD τ), csem ck.2)
abbrev barCell (c : Dev nD) : GSem nD τ sig := ((c : Thread nD τ), .reg barS)
abbrev xcell (c : Dev nD) (a : Fin 4) (r : Fin 2) (j : Fin 4) : GSem nD τ sig := ((c : Thread nD τ), .dma (xsem a r j))

theorem xsem_inj : Function.Injective fun x : Chan => xsem x.2 x.1.1 x.1.2 := fun x y h =>
  Prod.ext (Prod.ext ((segOf_xsem x.2 x.1.1 x.1.2).symm.trans ((congrArg segOf h).trans (segOf_xsem _ _ _)))
    ((shiftOf_xsem x.2 x.1.1 x.1.2).symm.trans ((congrArg shiftOf h).trans (shiftOf_xsem _ _ _))))
    ((roleOf_xsem x.2 x.1.1 x.1.2).symm.trans ((congrArg roleOf h).trans (roleOf_xsem _ _ _)))

theorem csem_inj : Function.Injective csem
  | .inl _, .inl _, _ => rfl
  | .inl _, .inr _, h => by cases h
  | .inr _, .inl _, h => by cases h
  | .inr x, .inr y, h => congrArg Sum.inr (xsem_inj (SemLoc.dma.inj h))

theorem kcell_inj : Function.Injective kcell := fun x y h =>
  Prod.ext (congrArg (fun g : GSem nD τ sig => g.1.1) h) (csem_inj (congrArg Prod.snd h))

/-- The kernel's own semaphores: every one but the staging buffers' two and the barrier's. -/
abbrev osem (k : Chan) : SemLoc sig := .dma (xsem k.2 k.1.1 k.1.2)
theorem ownSemFacts : Pipeline.OwnSemFacts cfg0.spec osem := by decide

/-- What one segment's transfer adds to a semaphore. -/
def N : ℕ := (xbSeg 0 0).view.dmaCredit
theorem N_pos : 0 < N := View.dmaCredit_pos _ (by decide)
theorem credit_xb (b : Dev nD) (r : Fin 2) : (xbSeg b r).view.dmaCredit = N := rfl
theorem credit_out (b : Dev nD) (r : Fin 2) : (outSeg b r).view.dmaCredit = N := rfl
theorem credit_rs (j : Fin 4) (r : Fin 2) : (rsSeg j r).view.dmaCredit = N := rfl

end Cert.AllReduce

end
-- ==== Proof.Contents.lean ====
/-
What the buffers hold while the kernel runs, and how a buffer is held in segments.

`xstg c` is device `c`'s input; `rsC c` what its receive buffer holds once the first exchange has landed; `outC` what every
device's result buffer holds at the end: one array, the same on all devices. The lemmas say that each transfer and each
store puts the right part of these there.
-/
module

public import proofs.«01_k».proof.Proof.Cells

@[expose] public section

set_option maxRecDepth 16384

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: duties named by a number below four. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s input as its staging buffer holds it. -/
def xstg (c : Dev nD) : (cc0_stg0_0 : Ref sig .tc).ty.Contents (Elt F) :=
  (win0_0.blk (0 : Fin 1)).view.read (Elt F) (m ((c : Thread nD τ).loc main_arg0))

/-- Device `c`'s copy of its input, which the first exchange sends from. -/
abbrev xbC (c : Dev nD) : (cc0_scratch0 : Ref sig .tc).ty.Contents (Elt F) := xstg m c

set_option backward.proofsInPublic true in
/-- The receive buffer of device `c` after the first exchange: slot `j` is row block `c` of the device `j` places before. -/
def rsC (c : Dev nD) : (cc0_scratch1 : Ref sig .tc).ty.Contents (Elt F) := fun (i : S4x256x512.Idx) =>
  xstg m (dn c (i 0)) (ix2 (n0 := 1024) (n1 := 512) ⟨256 * c.val + (i 1).val, by
    have h1 : c.val < 4 := c.isLt
    have h2 : (i 1).val < 256 := (i 1).isLt
    omega⟩ (i 2))

/-- Segment `r` of row block `b` of the sum, as device `b` computes it from its own block and the three received ones. -/
def redSeg (b : Dev nD) (r : Fin 2) : FVec F S128x512 .bf16 :=
  k0_pay2 (inM.view.readAt (Elt F) (rowRect b r).toLoadRect (xstg m b))
    (rsM.view.readAt (Elt F) (slotRect 1 r).toLoadRect (rsC m b))
    (rsM.view.readAt (Elt F) (slotRect 2 r).toLoadRect (rsC m b))
    (rsM.view.readAt (Elt F) (slotRect 3 r).toLoadRect (rsC m b))

set_option backward.proofsInPublic true in
/-- The result: every segment of every block of the sum, the same on every device. -/
def outC : (cc0_stg1_0 : Ref sig .tc).ty.Contents (Elt F) := fun (i : S1024x512.Idx) =>
  redSeg m (⟨(i 0).val / 256, by have h : (i 0).val < 1024 := (i 0).isLt; show _ < 4; omega⟩ : Dev nD)
    ⟨(i 0).val % 256 / 128, by omega⟩ (ix2 (n0 := 128) (n1 := 512) ⟨(i 0).val % 128, by omega⟩ (i 1))

/-! ## Indices of a segment -/

set_option backward.proofsInPublic true in
/-- Element `x` of segment `r` of row block `b`, in the whole buffer. -/
def rowIx (b : Dev nD) (r : Fin 2) (x : S128x512.Idx) : S1024x512.Idx :=
  ix2 (n0 := 1024) (n1 := 512) ⟨256 * b.val + 128 * r.val + (x 0).val, by
    have h1 : b.val < 4 := b.isLt
    have h2 : (x 0).val < 128 := (x 0).isLt
    have h3 := r.isLt
    omega⟩ (x 1)

set_option backward.proofsInPublic true in
/-- Element `x` of segment `r` of slot `j`, in the receive buffer. -/
def slotIx (j : Fin 4) (r : Fin 2) (x : S128x512.Idx) : S4x256x512.Idx :=
  ix3 (n0 := 4) (n1 := 256) (n2 := 512) j ⟨128 * r.val + (x 0).val, by
    have h2 : (x 0).val < 128 := (x 0).isLt
    have h3 := r.isLt
    omega⟩ (x 1)

theorem emb_row (b : Dev nD) (r : Fin 2) (x : S128x512.Idx) : (rowRect b r).emb x = rowIx b r x := by
  funext a
  apply Fin.ext
  rw [Rect.emb_apply]
  fin_cases a
  · show 256 * b.val + 128 * r.val + 1 * (x 0).val = 256 * b.val + 128 * r.val + (x 0).val; omega
  · show 0 + 1 * (x 1).val = (x 1).val; omega

theorem emb_slot (j : Fin 4) (r : Fin 2) (x : S128x512.Idx) : (rsSeg j r).view.emb x = slotIx j r x := by
  obtain ⟨y, z, rfl⟩ : ∃ (y : Fin 128) (z : Fin 512), x = ix2 y z := ⟨x 0, x 1, eq_ix2 (n0 := 128) (n1 := 512) x⟩
  refine (congrArg (slotRect j r).emb (reshapeEquiv_ix2_1ab _ y z)).trans ?_
  funext a
  apply Fin.ext
  rw [Rect.emb_apply]
  fin_cases a
  · show j.val + 1 * 0 = j.val; omega
  · show 128 * r.val + 1 * y.val = 128 * r.val + y.val; omega
  · show 0 + 1 * z.val = z.val; omega

omit [FloatOps F] in
/-- The receive buffer's contents, at an element of a segment. -/
theorem rsC_slot (c : Dev nD) (j : Fin 4) (r : Fin 2) (x : S128x512.Idx) : rsC m c (slotIx j r x) = xstg m (dn c j) (rowIx c r x) := by
  show xstg m (dn c j) (ix2 ⟨256 * c.val + (128 * r.val + (x 0).val), _⟩ (x 1)) = _
  congr 2
  exact Fin.ext (by show 256 * c.val + (128 * r.val + (x 0).val) = 256 * c.val + 128 * r.val + (x 0).val; omega)

/-- The result's contents, at an element of a segment. -/
theorem outC_row (b : Dev nD) (r : Fin 2) (x : S128x512.Idx) : outC m (rowIx b r x) = redSeg m b r x := by
  have h1 : b.val < 4 := b.isLt
  have h2 : (x 0).val < 128 := (x 0).isLt
  have h3 := r.isLt
  show redSeg m (⟨(256 * b.val + 128 * r.val + (x 0).val) / 256, _⟩ : Dev nD) ⟨(256 * b.val + 128 * r.val + (x 0).val) % 256 / 128, _⟩
    (ix2 ⟨(256 * b.val + 128 * r.val + (x 0).val) % 128, _⟩ (x 1)) = _
  have e1 : (⟨(256 * b.val + 128 * r.val + (x 0).val) / 256, by show _ < 4; omega⟩ : Dev nD) = b := Fin.ext (by show _ / _ = b.val; omega)
  have e2 : (⟨(256 * b.val + 128 * r.val + (x 0).val) % 256 / 128, by omega⟩ : Fin 2) = r := Fin.ext (by show _ / _ = r.val; omega)
  have e3 : (⟨(256 * b.val + 128 * r.val + (x 0).val) % 128, by omega⟩ : Fin 128) = x 0 := Fin.ext (by show _ % _ = (x 0).val; omega)
  rw [e1, e2, e3]
  exact congrArg (redSeg m b r) (eq_ix2 (n0 := 128) (n1 := 512) x).symm

/-! ## Segments held -/

/-- Segment `r` of row block `b` of device `c`'s copy, held in full at contents `f`. -/
def xbP (c b : Dev nD) (r : Fin 2) (f : (cc0_scratch0 : Ref sig .tc).ty.Contents (Elt F)) : sProp 𝕄 :=
  ((c : Thread nD τ).loc cc0_scratch0) ↦[(rowRect b r).set]{fullShare} f
/-- Segment `r` of slot `j` of device `c`'s receive buffer, held in full at contents `f`. -/
def rsP (c : Dev nD) (j : Fin 4) (r : Fin 2) (f : (cc0_scratch1 : Ref sig .tc).ty.Contents (Elt F)) : sProp 𝕄 :=
  ((c : Thread nD τ).loc cc0_scratch1) ↦[(slotRect j r).set]{fullShare} f
/-- Segment `r` of row block `b` of device `c`'s result, held at a share `q` and contents `f`. -/
def outP (c b : Dev nD) (r : Fin 2) (q : PosShare TreeShare) (f : (cc0_stg1_0 : Ref sig .tc).ty.Contents (Elt F)) : sProp 𝕄 :=
  ((c : Thread nD τ).loc cc0_stg1_0) ↦[(rowRect b r).set]{q} f

omit [FloatOps F] in
instance xbP_storable (c b : Dev nD) (r f) : BI.Storable (upEmb : UEmb _ 𝕄) (xbP (F := F) c b r f) := by unfold xbP; infer_instance
omit [FloatOps F] in
instance rsP_storable (c : Dev nD) (j r f) : BI.Storable (upEmb : UEmb _ 𝕄) (rsP (F := F) c j r f) := by unfold rsP; infer_instance
omit [FloatOps F] in
instance outP_storable (c b : Dev nD) (r q f) : BI.Storable (upEmb : UEmb _ 𝕄) (outP (F := F) c b r q f) := by unfold outP; infer_instance

omit [FloatOps F] in
/-- The copy held whole is held segment by segment; likewise the result and the receive buffer. -/
theorem xb_split (c : Dev nD) (f : (cc0_scratch0 : Ref sig .tc).ty.Contents (Elt F)) :
    (((c : Thread nD τ).loc cc0_scratch0) ↦{fullShare} f : sProp 𝕄) = bigSep Finset.univ fun x : Fin 2 × Fin 4 => xbP c (up c x.2) x.1 f :=
  Ring.pointsTo_blocks (ℓ := (c : Thread nD τ).loc cc0_scratch0) (fun x : Fin 2 × Fin 4 => (rowRect (up c x.2) x.1).set) (rows_disjoint c) (rows_cover c) f
omit [FloatOps F] in
theorem out_split (c : Dev nD) (f : (cc0_stg1_0 : Ref sig .tc).ty.Contents (Elt F)) :
    (((c : Thread nD τ).loc cc0_stg1_0) ↦{fullShare} f : sProp 𝕄) = bigSep Finset.univ fun x : Fin 2 × Fin 4 => outP c (up c x.2) x.1 fullShare f :=
  Ring.pointsTo_blocks (ℓ := (c : Thread nD τ).loc cc0_stg1_0) (fun x : Fin 2 × Fin 4 => (rowRect (up c x.2) x.1).set) (rows_disjoint c) (rows_cover c) f
omit [FloatOps F] in
theorem rs_split (c : Dev nD) (f : (cc0_scratch1 : Ref sig .tc).ty.Contents (Elt F)) :
    (((c : Thread nD τ).loc cc0_scratch1) ↦{fullShare} f : sProp 𝕄) = bigSep Finset.univ fun x : Fin 2 × Fin 4 => rsP c x.2 x.1 f :=
  Ring.pointsTo_blocks (ℓ := (c : Thread nD τ).loc cc0_scratch1) (fun x : Fin 2 × Fin 4 => (slotRect x.2 x.1).set) slots_disjoint slots_cover f

omit [FloatOps F] in
/-- The receive buffer's segments, each at some contents, are the buffer whole at some contents. -/
theorem rs_join (c : Dev nD) (f₀ : (cc0_scratch1 : Ref sig .tc).ty.Contents (Elt F)) :
    bigSep Finset.univ (fun x : Fin 2 × Fin 4 => iprop(∃ f, rsP (F := F) c x.2 x.1 f))
      ⊢ (iprop(∃ g, ((c : Thread nD τ).loc cc0_scratch1) ↦{fullShare} g) : sProp 𝕄) :=
  Ring.pointsTo_blocks_join_exists (ℓ := (c : Thread nD τ).loc cc0_scratch1) (fun x : Fin 2 × Fin 4 => (slotRect x.2 x.1).set) slots_disjoint slots_cover f₀

/-- The share of its own block a device lends the send of shift `j`; the three make up the whole. -/
def lent (j : Fin 4) : PosShare TreeShare := if j = 1 then Ring.shares3 fullShare 0 else if j = 2 then Ring.shares3 fullShare 1 else Ring.shares3 fullShare 2

omit [FloatOps F] in
theorem out_thirds (c b : Dev nD) (r : Fin 2) (f : (cc0_stg1_0 : Ref sig .tc).ty.Contents (Elt F)) :
    outP c b r fullShare f ⊣⊢ (iprop(outP c b r (lent 1) f ∗ outP c b r (lent 2) f ∗ outP c b r (lent 3) f) : sProp 𝕄) :=
  Ring.pointsTo_thirds (ℓ := (c : Thread nD τ).loc cc0_stg1_0) fullShare f

/-! ## What a transfer or a store leaves -/

omit [FloatOps F] in
/-- The first exchange's landing: slot `j` of the device `j` places after `c` holds what `rsC` says. -/
theorem landed_rs (c : Dev nD) (j : Fin 4) (r : Fin 2) (fd : (cc0_scratch1 : Ref sig .tc).ty.Contents (Elt F)) :
    (((up c j : Thread nD τ).loc cc0_scratch1) ↦[(rsSeg j r).view.set]{fullShare}
        ((rsSeg j r).view.write (Elt F) fd ((xbSeg (up c j) r).view.read (Elt F) (xbC m c)) Finset.univ) : sProp 𝕄)
      = rsP (up c j) j r (rsC m (up c j)) := by
  unfold rsP
  rw [← set_rsSeg]
  refine pointsTo_congr fun i hi => ?_
  obtain ⟨x, -, rfl⟩ := Finset.mem_map.mp hi
  rw [View.write_emb_of_mem _ _ (Finset.mem_univ x), View.read_apply]
  refine Eq.trans (b := xstg m c (rowIx (up c j) r x)) ?_ ?_
  · exact congrArg (xstg m c) (emb_row (up c j) r x)
  · rw [emb_slot, rsC_slot, dn_up]

/-- The second exchange's landing: block `b`, sent from a result that holds `outC` there, holds `outC` where it lands. -/
theorem landed_out (d b : Dev nD) (r : Fin 2) (fd : (cc0_stg1_0 : Ref sig .tc).ty.Contents (Elt F)) :
    (((d : Thread nD τ).loc cc0_stg1_0) ↦[(outSeg b r).view.set]{fullShare}
        ((outSeg b r).view.write (Elt F) fd ((outSeg b r).view.read (Elt F) (outC m)) Finset.univ) : sProp 𝕄)
      = outP d b r fullShare (outC m) := by
  unfold outP
  rw [← set_outSeg]
  refine pointsTo_congr fun i hi => ?_
  obtain ⟨x, -, rfl⟩ := Finset.mem_map.mp hi
  rw [View.write_emb_of_mem _ _ (Finset.mem_univ x), View.read_apply]
  rfl

/-- The store of a computed segment leaves `outC` there. -/
theorem stored_out (c b : Dev nD) (r : Fin 2) (f : (cc0_stg1_0 : Ref sig .tc).ty.Contents (Elt F)) :
    (((c : Thread nD τ).loc cc0_stg1_0) ↦[(rowRect b r).set]{fullShare}
        ((outM.access (rowRect b r)).write (Elt F) f (redSeg m b r) Finset.univ) : sProp 𝕄)
      = outP c b r fullShare (outC m) := by
  unfold outP
  refine pointsTo_congr fun i hi => ?_
  rw [← Rect.map_emb_univ] at hi
  obtain ⟨x, -, rfl⟩ := Finset.mem_map.mp hi
  refine (View.write_emb_of_mem (v := outM.access (rowRect b r)) (Val := Elt F) f (redSeg m b r) (Finset.mem_univ x)).trans ?_
  rw [emb_row, outC_row]
  rfl

end Cert.AllReduce

end
-- ==== Proof.Schedule.lean ====
/-
The protocol: which semaphore hands over what, what each device still has to send, and in which order it may wait.

One round of everything. A device's barrier semaphore is raised by the three others, one unit each; with its unit, the
device `j` places after hands over the parts of its buffers the receiver will write: slot `j` of its receive buffer and
the receiver's row block of its result. Each transfer semaphore is raised once, by one segment's transfer: on the sending
side the segment sent comes back, on the receiving side the segment landed is handed over.
-/
module

public import proofs.«01_k».proof.Proof.Contents

@[expose] public section

set_option maxRecDepth 16384

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is handed over -/

/-- What the device `j` places after `c` hands `c` with its barrier unit: its slot `j` and its row block `c`, both segments
    of each, at whatever contents. -/
def barPay (c : Dev nD) (j : Fin 4) : sProp 𝕄 :=
  iprop((∃ f, rsP (up c j) j 0 f) ∗ (∃ f, rsP (up c j) j 1 f) ∗ (∃ g, outP (up c j) c 0 fullShare g) ∗ ∃ g, outP (up c j) c 1 fullShare g)

/-- What a transfer's semaphore hands device `c`, by role. -/
def xPay (c : Dev nD) (a : Fin 4) (r : Fin 2) (j : Fin 4) : sProp 𝕄 :=
  if a = 0 then xbP c (up c j) r (xbC m c)
  else if a = 1 then rsP c j r (rsC m c)
  else if a = 2 then outP c c r (lent j) (outC m)
  else outP c (dn c j) r fullShare (outC m)

omit [FloatOps F] in
instance barPay_storable (c : Dev nD) (j) : BI.Storable (upEmb : UEmb _ 𝕄) (barPay (F := F) c j) := by unfold barPay; infer_instance
instance xPay_storable (c : Dev nD) (a r j) : BI.Storable (upEmb : UEmb _ 𝕄) (xPay m c a r j) := by
  unfold xPay; (repeat' split) <;> infer_instance

/-- The schedule: round 0 only. The barrier has duties 1, 2, 3 of one unit; a transfer semaphore of a non-zero shift has
    duty 0, of one segment's credit; the other semaphores have none. -/
def sched : Rounds.Schedule (GSem nD τ sig) (Fin 4) 𝕄 where
  duties g r := if r = 0 ∧ g.1.2 = .tc then
      (match g.2 with
        | .reg _ => {1, 2, 3}
        | .dma q => if shiftOf q = 0 then ∅ else {0})
    else ∅
  unitless _ := False
  amount g _ _ := match g.2 with | .reg _ => 1 | .dma _ => N
  payload g _ d := match g.2 with
    | .reg _ => barPay g.1.1 d
    | .dma q => xPay m g.1.1 (roleOf q) (segOf q) (shiftOf q)
  amount_pos g _ _ _ := by
    rcases g with ⟨t, s | q⟩
    · exact Nat.one_pos
    · exact N_pos

instance sched_payload_storable (g : GSem nD τ sig) (r : ℕ) (d : Fin 4) : BI.Storable (upEmb : UEmb _ 𝕄) ((sched m).payload g r d) := by
  rcases g with ⟨t, s | q⟩
  · exact barPay_storable _ _
  · exact xPay_storable _ _ _ _ _

theorem duties_bar (c : Dev nD) : (sched m).duties (barCell c) 0 = {1, 2, 3} := by dsimp only [sched]; exact if_pos ⟨rfl, rfl⟩
theorem duties_x (c : Dev nD) (a r) {j : Fin 4} (hj : j ≠ 0) : (sched m).duties (xcell c a r j) 0 = {0} := by
  dsimp only [sched]; rw [if_pos ⟨rfl, rfl⟩, shiftOf_xsem, if_neg hj]
theorem duties_idle (c : Dev nD) (a r) (n : ℕ) : (sched m).duties (xcell c a r 0) n = ∅ := by
  dsimp only [sched]; rw [shiftOf_xsem, if_pos rfl]; exact ite_self _
theorem duties_later (g : GSem nD τ sig) : ∀ r, 1 ≤ r → (sched m).duties g r = ∅ := fun r hr => by
  dsimp only [sched]; exact if_neg fun h => by omega

theorem amount_bar (c : Dev nD) (d : Fin 4) : (sched m).amount (barCell c) 0 d = 1 := rfl
theorem amount_x (c : Dev nD) (a r j d) : (sched m).amount (xcell c a r j) 0 d = N := rfl
theorem payload_bar (c : Dev nD) (d : Fin 4) : (sched m).payload (barCell c) 0 d = barPay c d := rfl
theorem payload_x (c : Dev nD) (a r j d) : (sched m).payload (xcell c a r j) 0 d = xPay m c a r j := by
  dsimp only [sched]; rw [roleOf_xsem, segOf_xsem, shiftOf_xsem]

theorem expect_bar (c : Dev nD) : (sched m).expect (barCell c) 0 = 3 := by
  unfold Schedule.expect Schedule.amountOf
  rw [duties_bar, Finset.sum_congr rfl fun d _ => amount_bar m c d]; rfl
theorem expect_x (c : Dev nD) (a r) {j : Fin 4} (hj : j ≠ 0) : (sched m).expect (xcell c a r j) 0 = N := by
  unfold Schedule.expect Schedule.amountOf; rw [duties_x m c a r hj, Finset.sum_singleton, amount_x]

theorem rest_bar (c : Dev nD) : bigSep ((sched m).duties (barCell c) 0 \ ∅) (fun d => (sched m).payload (barCell c) 0 d)
    = iprop(barPay c 1 ∗ barPay c 2 ∗ barPay c 3) := by
  rw [Finset.sdiff_empty, duties_bar, bigSep_eq_bigSepL_of_eq [1, 2, 3] (by decide) (by decide)]
  rfl
theorem rest_x (c : Dev nD) (a r) {j : Fin 4} (hj : j ≠ 0) :
    bigSep ((sched m).duties (xcell c a r j) 0 \ ∅) (fun d => (sched m).payload (xcell c a r j) 0 d) = xPay m c a r j := by
  rw [Finset.sdiff_empty, duties_x m c a r hj, bigSep_singleton, payload_x]

/-! ## What a device owes -/

/-- What raising a semaphore of a kind adds to it. -/
def units : Kind → ℕ
  | .inl _ => 1
  | .inr _ => N

/-- The semaphores of other devices a device raises, in the order it does: by shift and kind. First the three barriers, then
    the first exchange's transfers, segment by segment, then the second's. -/
def payments : List (Fin 4 × Kind) :=
  [(1, .inl ()), (2, .inl ()), (3, .inl ()),
   (2, .inr ((0, 2), 1)), (1, .inr ((0, 1), 1)), (3, .inr ((0, 3), 1)),
   (2, .inr ((1, 2), 1)), (1, .inr ((1, 1), 1)), (3, .inr ((1, 3), 1)),
   (2, .inr ((0, 2), 3)), (1, .inr ((0, 1), 3)), (3, .inr ((0, 3), 3)),
   (2, .inr ((1, 2), 3)), (1, .inr ((1, 1), 3)), (3, .inr ((1, 3), 3))]

/-- What device `c` owes with the payments `l` still to make. -/
def owesL (c : Dev nD) : List (Fin 4 × Kind) → CellTallies nD τ sig Unit
  | [] => 0
  | p :: l => owesL c l + tallyAt (kcell (up c p.1, p.2)) () (units p.2)

/-- The same payments as their receiver sees them. -/
def dueL (c : Dev nD) : List (Fin 4 × Kind) → CellTallies nD τ sig Unit
  | [] => 0
  | p :: l => dueL c l + tallyAt (kcell (c, p.2)) () (units p.2)

/-- Over all devices what is owed is what is due. -/
theorem sum_owesL (l : List (Fin 4 × Kind)) : (∑ c, owesL c l) = ∑ c, dueL c l := by
  induction l with
  | nil => rfl
  | cons p l ih =>
    simp only [owesL, dueL, Finset.sum_add_distrib]
    rw [ih]
    congr 1
    exact Equiv.sum_comp (shift p.1) fun c => (tallyAt (kcell (c, p.2)) () (units p.2) : CellTallies nD τ sig Unit)

theorem owesL_pos {c : Dev nD} {l : List (Fin 4 × Kind)} {g : GSem nD τ sig} {u : Unit} (h : 0 < owesL c l g u) :
    ∃ p ∈ l, g = kcell (up c p.1, p.2) := by
  induction l with
  | nil => exact absurd h (Nat.lt_irrefl 0)
  | cons p l ih =>
    rw [owesL, Pi.add_apply, Finsupp.add_apply] at h
    rcases Nat.eq_zero_or_pos (owesL c l g u) with h0 | h0
    · rw [h0, Nat.zero_add] at h
      exact ⟨p, List.mem_cons_self, (Pipeline.tallyAt_pos h).1⟩
    · obtain ⟨q, hq, e⟩ := ih h0
      exact ⟨q, List.mem_cons_of_mem _ hq, e⟩

theorem dueL_core (c : Dev nD) (l : List (Fin 4 × Kind)) (g : GSem nD τ sig) (h : dueL c l g ≠ 0) : g.1 = (c : Thread nD τ) := by
  induction l with
  | nil => exact absurd rfl h
  | cons p l ih =>
    by_contra hn
    refine h ?_
    rw [dueL, Pi.add_apply, tallyAt_ne_cell (fun e => hn (congrArg Prod.fst e)), add_zero]
    by_contra h'
    exact hn (ih h')

/-! ## The order of waits -/

/-- A device waits on a semaphore only while everything it owes is on semaphores of a greater level: staging and the sending
    sides at 0, the barrier at 1, the first exchange's receiving sides at 2, the second's at 3. -/
def lvl : SemLoc sig → ℕ
  | .reg _ => 1
  | .dma q => if q.val < 2 then 0 else if roleOf q = 1 then 2 else if roleOf q = 3 then 3 else 0

def L (g : GSem nD τ sig) : Finset Unit := if g.1.2 = .tc then {()} else ∅
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
theorem mayWait (c : Dev nD) (sm : SemLoc sig) (l : List (Fin 4 × Kind)) (h : ∀ p ∈ l, lvl sm < lvl (csem p.2)) :
    (levAts L lv : sProp 𝕄) ⊢ MayWait (c : Thread nD τ) sm () (owesL c l) :=
  MayOwe.of_cut (L := L) (lev := lv) (lvl sm)
    (fun p hp => by rw [Finset.mem_singleton.mp hp, L_tc]; exact Finset.mem_singleton_self _)
    (fun g u hg => by obtain ⟨p, -, rfl⟩ := owesL_pos hg; rw [L_tc]; exact Finset.mem_singleton_self _)
    (fun p hp => by rw [Finset.mem_singleton.mp hp]; exact Nat.le_refl _)
    (fun g u hg => by obtain ⟨p, hp, rfl⟩ := owesL_pos hg; exact h p hp)

end Cert.AllReduce

end
-- ==== Proof.Steps.lean ====
/-
One rule for each kind of step the kernel takes: a unit to a barrier, the wait on the own barrier, a transfer of either
exchange, the wait for a transfer. Each is stated once, for any device, segment and shift.
-/
module

public import proofs.«01_k».proof.Proof.Schedule

@[expose] public section

set_option maxRecDepth 16384

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows -/

/-- Every semaphore's invariant, and that its round 0 has begun. -/
def records (K : Dev nD × Kind → ℕ) : sProp 𝕄 :=
  iprop((bigSep Finset.univ fun ck : Dev nD × Kind => cellInv ER (sched m) (K ck) (kcell ck))
    ∗ (bigSep Finset.univ fun ck : Dev nD × Kind => reached ER (kcell ck) 0) ∗ levAts L lv)

instance records_persistent (K : Dev nD × Kind → ℕ) : BI.Persistent (records m K) := by unfold records; infer_instance

variable (K : Dev nD × Kind → ℕ)

theorem inv_at (ck : Dev nD × Kind) : records m K ⊢ cellInv ER (sched m) (K ck) (kcell ck) := by
  unfold records
  exact sep_elim_left.trans (bigSep_elim (Φ := fun ck : Dev nD × Kind => cellInv ER (sched m) (K ck) (kcell ck)) (Finset.mem_univ ck))
theorem reached_at (ck : Dev nD × Kind) : records m K ⊢ reached ER (kcell ck) 0 := by
  unfold records
  exact sep_elim_right.trans (sep_elim_left.trans (bigSep_elim (Φ := fun ck : Dev nD × Kind => (reached ER (kcell ck) 0 : sProp 𝕄)) (Finset.mem_univ ck)))
theorem levels_at : records m K ⊢ levAts L lv := by
  unfold records
  iintro ⟨-, -, H⟩
  iexact H

/-- What a device owes, at whatever waits it has booked. -/
def owing (c : Dev nD) (l : List (Fin 4 × Kind)) : sProp 𝕄 := iprop(∃ W, owes (c : Thread nD τ) (owesL c l) W)

/-- The right to wait for a transfer: its credit and the position at the start of its semaphore's round. -/
def awaits (c : Dev nD) (a : Fin 4) (r : Fin 2) (j : Fin 4) : sProp 𝕄 :=
  iprop(cred (tallyAt (xcell c a r j) () N) ∗ atPos ER (xcell c a r j) 0 ∅ 0)

/-- The right to make a transfer of the first exchange (`a = 0`) or of the second (`a = 2`): the token of its sending side,
    with the position there, and of its receiving side on the device `j` places after. -/
def ticket (c : Dev nD) (a : Fin 4) (r : Fin 2) (j : Fin 4) : sProp 𝕄 :=
  iprop(dutyTok ER (xcell c a r j) 0 0 ∗ dutyTok ER (xcell (up c j) (a + 1) r j) 0 0 ∗ atPos ER (xcell c a r j) 0 ∅ 0)

/-! ## The barrier -/

/-- A unit to the barrier of the device `i` places after, with the parts of this device's buffers that one will write. -/
theorem wp_bar (c n : Dev nD) (i : Fin 4) (hn : n = up c i) (hi : i ≠ 0) {s : Sem sig} (hs : s = barS) {u : ℤ} (hu : u = 1)
    (l : List (Fin 4 × Kind)) {α : Type} {Q : α → sProp 𝕄} {k : PUnit → Prog (TpuEff nD τ sig (Elt F) Λ₀ .tc) α} :
    iprop(records m K ∗ owing c ((i, .inl ()) :: l) ∗ dutyTok ER (barCell (up c i)) 0 (neg i)
        ∗ ((∃ f, rsP c (neg i) 0 f) ∗ (∃ f, rsP c (neg i) 1 f) ∗ (∃ g, outP c (up c i) 0 fullShare g) ∗ ∃ g, outP c (up c i) 1 fullShare g))
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s u) k) Q) := by
  subst hn hs hu
  unfold owing
  iintro ⟨#HR, ⟨%W, HO⟩, Ht, Hp⟩ Hk
  iapply (Rounds.wp_signal 𝒱₀ ER (sched m) (c : Thread nD τ) none (dst := (up c i : Thread nD τ)) (κ := K (up c i, .inl ())) (k' := 1)
      (d := neg i) (by rw [duties_bar]; revert i; decide) (amount_bar m (up c i) (neg i)) () (owesL c l) rfl (W := W)) $$ [HO Ht Hp]
  · isplitr; · iapply (inv_at m K (up c i, .inl ())); iexact HR
    isplitl [HO]; · iexact HO
    isplitl [Ht]; · iexact Ht
    isplitl [Hp]
    · rw [payload_bar]; unfold barPay; rw [up_up_neg]; iexact Hp
    · iapply (reached_at m K (up c i, .inl ())); iexact HR
  iintro HO
  iapply Hk
  iexists W; iexact HO

/-- The wait for the three units of the own barrier. -/
theorem wp_bar_wait (c : Dev nD) {s : Sem sig} (hs : s = barS) {u : ℤ} (hu : u = 3)
    (l : List (Fin 4 × Kind)) (hl : ∀ p ∈ l, lvl (.reg barS) < lvl (csem p.2))
    {α : Type} {Q : α → sProp 𝕄} {k : PUnit → Prog (TpuEff nD τ sig (Elt F) Λ₀ .tc) α} :
    iprop(records m K ∗ owing c l ∗ cred (tallyAt (barCell c) () 3) ∗ atPos ER (barCell c) 0 ∅ 0)
      ⊢ iprop(((owing c l ∗ semVal (barCell c) 0 ∗ barPay c 1 ∗ barPay c 2 ∗ barPay c 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s u) k) Q) := by
  subst hs hu
  unfold owing
  iintro ⟨#HR, ⟨%W, HO⟩, Hc, Hat⟩ Hk
  iapply (Rounds.wp_wait_rest_token 𝒱₀ ER (sched m) (c : Thread nD τ) none (κ := K (c, .inl ())) (k' := 3)
      (wpE_semWait_eq 𝒱₀ (c : Thread nD τ) none Set.univ) (Set.mem_univ _) () (O := owesL c l) (W := W) (R := 0) (m := 0) (T := ∅)
      (by rw [expect_bar])) $$ [Hc HO Hat]
  · isplitr; · iapply (inv_at m K (c, .inl ())); iexact HR
    isplitl [Hc]; · iexact Hc
    isplitl [HO]; · iexact HO
    isplitr; · iapply (mayWait c (.reg barS) l hl); iapply (levels_at m K); iexact HR
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barCell c))) $$ [Hat] with Hz
  · isplitr; · iapply (inv_at m K (c, .inl ())); iexact HR
    iexact Hat
  iapply Hk
  isplitl [HO]; · iexists _; iexact HO
  isplitl [Hz]; · iexact Hz
  iexact Hp

/-! ## Transfers -/

/-- A transfer of the first exchange: segment `r` of row block `c + j` of this device's copy into slot `j` of device `c + j`. -/
theorem wp_rs_send (c n : Dev nD) (r : Fin 2) (j : Fin 4) (hj : j ≠ 0) (hn : n = up c j)
    {off : Fin 2 → Nat} {hin : ∀ a, off a + S128x512.size a ≤ S1024x512.size a} (hoff : off = rowOff (up c j) r)
    {off' : Fin 3 → Nat} {hin' : ∀ a, off' a + S1x128x512.size a ≤ S4x256x512.size a} (hoff' : off' = slotOff j r)
    {sS sR : DmaSem sig} (hS : sS = xsem 0 r j) (hR : sR = xsem 1 r j)
    {hst : ∀ a, (Rect.unit (s := S1024x512) off S128x512.size hin).stride a = 1} {hst' : ∀ a, (Rect.unit (s := S4x256x512) off' S1x128x512.size hin').stride a = 1}
    {hsc hsrc hdst hsem} (l : List (Fin 4 × Kind))
    {α : Type} {Q : α → sProp 𝕄} {k : PUnit → Prog (TpuEff nD τ sig (Elt F) Λ₀ .tc) α} :
    iprop(records m K ∗ owing c ((j, .inr ((r, j), 1)) :: l) ∗ ticket c 0 r j ∗ xbP c (up c j) r (xbC m c) ∗ (∃ f, rsP (up c j) j r f))
      ⊢ iprop(((owing c l ∗ awaits c 0 r j) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xbM.slice (Rect.unit (s := S1024x512) off S128x512.size hin) hst)
                (.remote (Dev.tc n : Thread nD τ) ((rsM.slice (Rect.unit (s := S4x256x512) off' S1x128x512.size hin') hst').squeeze S128x512 squeezes_S1x128x512_S128x512)
                  (.dma sS) hsc) (.dma sR) hsrc hdst hsem) k) Q) := by
  subst hn hoff hoff' hS hR
  unfold owing awaits ticket
  iintro ⟨#HR, ⟨%W, HO⟩, ⟨Ht, Ht', Hat⟩, Hx, ⟨%fd, Hd⟩⟩ Hk
  iapply (Rounds.wp_send_pointsTo 𝒱₀ ER (sched m) (c : Thread nD τ) none (c' := (up c j : Thread nD τ)) (src := xbSeg (up c j) r) (dst := rsSeg j r)
      (sS := .dma (xsem 0 r j)) (sem := .dma (xsem 1 r j)) (q := fullShare)
      (κ₁ := K (c, .inr ((r, j), 0))) (κ₂ := K (up c j, .inr ((r, j), 1)))
      (r₁ := 0) (r₂ := 0) (d₁ := 0) (d₂ := 0) (fs := xbC m c) (fd := fd)
      (by rw [duties_x m c 0 r hj]; exact Finset.mem_singleton_self _) (by rw [duties_x m (up c j) 1 r hj]; exact Finset.mem_singleton_self _)
      () () N (credit_rs j r) (amount_x m c 0 r j 0) (amount_x m (up c j) 1 r j 0) (owesL c l) rfl (W := W)
      (by rw [payload_x]; unfold xPay xbP; rw [if_pos rfl, ← set_xbSeg])
      (by rw [payload_x]; unfold xPay; rw [if_neg (by decide), if_pos rfl]; exact Entails.of_eq (landed_rs m c j r fd))) $$ [HO Ht Ht' Hx Hd]
  · isplitr; · iapply (inv_at m K (c, .inr ((r, j), 0))); iexact HR
    isplitr; · iapply (inv_at m K (up c j, .inr ((r, j), 1))); iexact HR
    isplitl [Hx]; · unfold xbP; rw [set_xbSeg]; iexact Hx
    isplitl [Hd]; · unfold rsP; rw [set_rsSeg]; iexact Hd
    isplitl [HO]; · iexact HO
    isplitl [Ht]; · iexact Ht
    isplitr; · iapply (reached_at m K (c, .inr ((r, j), 0))); iexact HR
    isplitl [Ht']; · iexact Ht'
    iapply (reached_at m K (up c j, .inr ((r, j), 1))); iexact HR
  iintro ⟨Hc, HO⟩
  iapply Hk
  isplitl [HO]; · iexists W; iexact HO
  isplitl [Hc] <;> iassumption

/-- A transfer of the second exchange: segment `r` of this device's row block of the result into the same place of device
    `c + j`, from the share lent to it. -/
theorem wp_ag_send (c n : Dev nD) (r : Fin 2) (j : Fin 4) (hj : j ≠ 0) (hn : n = up c j)
    {off : Fin 2 → Nat} {hin : ∀ a, off a + S128x512.size a ≤ S1024x512.size a} (hoff : off = rowOff c r)
    {sS sR : DmaSem sig} (hS : sS = xsem 2 r j) (hR : sR = xsem 3 r j)
    {hst hst' : ∀ a, (Rect.unit (s := S1024x512) off S128x512.size hin).stride a = 1}
    {hsc hsrc hdst hsem} (l : List (Fin 4 × Kind))
    {α : Type} {Q : α → sProp 𝕄} {k : PUnit → Prog (TpuEff nD τ sig (Elt F) Λ₀ .tc) α} :
    iprop(records m K ∗ owing c ((j, .inr ((r, j), 3)) :: l) ∗ ticket c 2 r j ∗ outP c c r (lent j) (outC m) ∗ (∃ f, outP (up c j) c r fullShare f))
      ⊢ iprop(((owing c l ∗ awaits c 2 r j) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (outM.slice (Rect.unit (s := S1024x512) off S128x512.size hin) hst)
                (.remote (Dev.tc n : Thread nD τ) (outM.slice (Rect.unit (s := S1024x512) off S128x512.size hin) hst')
                  (.dma sS) hsc) (.dma sR) hsrc hdst hsem) k) Q) := by
  subst hn hoff hS hR
  unfold owing awaits ticket
  iintro ⟨#HR, ⟨%W, HO⟩, ⟨Ht, Ht', Hat⟩, Hx, ⟨%fd, Hd⟩⟩ Hk
  iapply (Rounds.wp_send_pointsTo 𝒱₀ ER (sched m) (c : Thread nD τ) none (c' := (up c j : Thread nD τ)) (src := outSeg c r) (dst := outSeg c r)
      (sS := .dma (xsem 2 r j)) (sem := .dma (xsem 3 r j)) (q := lent j)
      (κ₁ := K (c, .inr ((r, j), 2))) (κ₂ := K (up c j, .inr ((r, j), 3)))
      (r₁ := 0) (r₂ := 0) (d₁ := 0) (d₂ := 0) (fs := outC m) (fd := fd)
      (by rw [duties_x m c 2 r hj]; exact Finset.mem_singleton_self _) (by rw [duties_x m (up c j) 3 r hj]; exact Finset.mem_singleton_self _)
      () () N (credit_out c r) (amount_x m c 2 r j 0) (amount_x m (up c j) 3 r j 0) (owesL c l) rfl (W := W)
      (by rw [payload_x]; unfold xPay outP; rw [if_neg (by decide), if_neg (by decide), if_pos rfl, ← set_outSeg])
      (by rw [payload_x]; unfold xPay; rw [if_neg (by decide), if_neg (by decide), if_neg (by decide), dn_up]; exact Entails.of_eq (landed_out m (up c j) c r fd)))
    $$ [HO Ht Ht' Hx Hd]
  · isplitr; · iapply (inv_at m K (c, .inr ((r, j), 2))); iexact HR
    isplitr; · iapply (inv_at m K (up c j, .inr ((r, j), 3))); iexact HR
    isplitl [Hx]; · unfold outP; rw [set_outSeg]; iexact Hx
    isplitl [Hd]; · unfold outP; rw [set_outSeg]; iexact Hd
    isplitl [HO]; · iexact HO
    isplitl [Ht]; · iexact Ht
    isplitr; · iapply (reached_at m K (c, .inr ((r, j), 2))); iexact HR
    isplitl [Ht']; · iexact Ht'
    iapply (reached_at m K (up c j, .inr ((r, j), 3))); iexact HR
  iintro ⟨Hc, HO⟩
  iapply Hk
  isplitl [HO]; · iexists W; iexact HO
  isplitl [Hc] <;> iassumption

theorem xPay_zero (c : Dev nD) (r j) : xPay m c 0 r j = xbP c (up c j) r (xbC m c) := if_pos rfl
theorem xPay_one (c : Dev nD) (r j) : xPay m c 1 r j = rsP c j r (rsC m c) := (if_neg (by decide)).trans (if_pos rfl)
theorem xPay_two (c : Dev nD) (r j) : xPay m c 2 r j = outP c c r (lent j) (outC m) :=
  (if_neg (by decide)).trans ((if_neg (by decide)).trans (if_pos rfl))
theorem xPay_three (c : Dev nD) (r j) : xPay m c 3 r j = outP c (dn c j) r fullShare (outC m) :=
  (if_neg (by decide)).trans ((if_neg (by decide)).trans (if_neg (by decide)))

/-- The wait for a transfer, on either side: what it hands over, and its semaphore closed at zero. -/
theorem wp_x_wait (c : Dev nD) (a : Fin 4) (r : Fin 2) (j : Fin 4) (hj : j ≠ 0) {q : DmaSem sig} (hq : q = xsem a r j)
    {P : sProp 𝕄} (hP : xPay m c a r j = P)
    {sp sp' : Space} {s s' : Shape} {e e' : EltTy} {src : Memref sig .tc sp' s' e'} {dst : Memref sig .tc sp s e} {hsrc hdst}
    (hN : dst.view.dmaCredit = N) (l : List (Fin 4 × Kind)) (hl : ∀ p ∈ l, lvl (.dma (xsem a r j)) < lvl (csem p.2))
    {α : Type} {Q : α → sProp 𝕄} {k : PUnit → Prog (TpuEff nD τ sig (Elt F) Λ₀ .tc) α} :
    iprop(records m K ∗ owing c l ∗ awaits c a r j)
      ⊢ iprop(((owing c l ∗ semVal (xcell c a r j) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hP
  unfold owing awaits
  iintro ⟨#HR, ⟨%W, HO⟩, Hc, Hat⟩ Hk
  iapply (Rounds.wp_wait_rest_token 𝒱₀ ER (sched m) (c : Thread nD τ) none (κ := K (c, .inr ((r, j), a)))
      (wpE_waitDma2_eq 𝒱₀ (c : Thread nD τ) none Set.univ) (Set.mem_univ _) () (O := owesL c l) (W := W) (R := 0) (m := 0) (T := ∅)
      (by rw [Nat.zero_add, expect_x m c a r hj, hN])) $$ [Hc HO Hat]
  · isplitr; · iapply (inv_at m K (c, .inr ((r, j), a))); iexact HR
    isplitl [Hc]; · rw [hN]; iexact Hc
    isplitl [HO]; · iexact HO
    isplitr; · iapply (mayWait c (.dma (xsem a r j)) l hl); iapply (levels_at m K); iexact HR
    iexact Hat
  iintro ⟨HO, Hat, -, Hpay⟩
  ihave Hp := (Entails.of_eq (rest_x m c a r hj)) $$ Hpay
  imod (Rounds.cell_close ER (sched m) (Set.mem_univ (K (c, .inr ((r, j), a)))) (fun h => h) (R := 0 + 1) (duties_later m (xcell c a r j))) $$ [Hat] with Hz
  · isplitr; · iapply (inv_at m K (c, .inr ((r, j), a))); iexact HR
    iexact Hat
  iapply Hk
  isplitl [HO]; · iexists _; iexact HO
  isplitl [Hz]; · iexact Hz
  iexact Hp

/-- A semaphore of shift 0, which nothing uses, is closed at zero as it stands. -/
theorem idle_close (c : Dev nD) (a : Fin 4) (r : Fin 2) :
    iprop(records m K ∗ atPos ER (xcell c a r 0) 0 ∅ 0) ⊢ (iprop(|={Set.univ}=> semVal (xcell c a r 0) 0) : sProp 𝕄) := by
  iintro ⟨#HR, Hat⟩
  iapply (Rounds.cell_close ER (sched m) (Set.mem_univ (K (c, .inr ((r, 0), a)))) (fun h => h) (R := 0) (fun n _ => duties_idle m c a r n))
  isplitr; · iapply (inv_at m K (c, .inr ((r, 0), a))); iexact HR
  iexact Hat

/-! ## Loads and stores of a segment -/

/-- A load of segment `r` of slot `j`. -/
theorem wp_load_rs (c : Dev nD) (j : Fin 4) (r : Fin 2) (f : (cc0_scratch1 : Ref sig .tc).ty.Contents (Elt F))
    {off : Fin 3 → Nat} {hin : ∀ a, off a + S1x128x512.size a ≤ S4x256x512.size a} (hoff : off = slotOff j r)
    {hl} {α : Type} {Q : α → sProp 𝕄} {k : (S1x128x512.Idx → Elt F .bf16) → Prog (TpuEff nD τ sig (Elt F) Λ₀ .tc) α} :
    rsP c j r f
      ⊢ iprop((rsP c j r f -∗ wp frame (wpE (defs₀ (F := F)) 𝒱₀ (c : Thread nD τ) none) Set.univ (k (rsM.view.readAt (Elt F) (slotRect j r).toLoadRect f)) Q)
          -∗ wp frame (wpE (defs₀ (F := F)) 𝒱₀ (c : Thread nD τ) none) Set.univ
              (.op (.load rsM (Rect.unit (s := S4x256x512) off S1x128x512.size hin).toLoadRect hl) k) Q) := by
  subst hoff
  unfold rsP
  exact wp_load 𝒱₀ (c : Thread nD τ) none Set.univ (m := rsM) (r := (slotRect j r).toLoadRect)
    (fun i hi => by obtain ⟨x, hx, rfl⟩ := Finset.mem_map.mp hi; exact hx)

/-- A load of segment `r` of row block `b` of the result. -/
theorem wp_load_out (c b : Dev nD) (r : Fin 2) (f : (cc0_stg1_0 : Ref sig .tc).ty.Contents (Elt F))
    {off : Fin 2 → Nat} {hin : ∀ a, off a + S128x512.size a ≤ S1024x512.size a} (hoff : off = rowOff b r)
    {hl} {α : Type} {Q : α → sProp 𝕄} {k : (S128x512.Idx → Elt F .bf16) → Prog (TpuEff nD τ sig (Elt F) Λ₀ .tc) α} :
    outP c b r fullShare f
      ⊢ iprop((outP c b r fullShare f -∗ wp frame (wpE (defs₀ (F := F)) 𝒱₀ (c : Thread nD τ) none) Set.univ (k (outM.view.readAt (Elt F) (rowRect b r).toLoadRect f)) Q)
          -∗ wp frame (wpE (defs₀ (F := F)) 𝒱₀ (c : Thread nD τ) none) Set.univ
              (.op (.load outM (Rect.unit (s := S1024x512) off S128x512.size hin).toLoadRect hl) k) Q) := by
  subst hoff
  unfold outP
  exact wp_load 𝒱₀ (c : Thread nD τ) none Set.univ (m := outM) (r := (rowRect b r).toLoadRect)
    (fun i hi => by obtain ⟨x, hx, rfl⟩ := Finset.mem_map.mp hi; exact hx)

/-- A load of segment `r` of row block `b` of the input, held whole. -/
theorem wp_load_in (c b : Dev nD) (r : Fin 2) (f : (cc0_stg0_0 : Ref sig .tc).ty.Contents (Elt F))
    {off : Fin 2 → Nat} {hin : ∀ a, off a + S128x512.size a ≤ S1024x512.size a} (hoff : off = rowOff b r)
    {hl} {α : Type} {Q : α → sProp 𝕄} {k : (S128x512.Idx → Elt F .bf16) → Prog (TpuEff nD τ sig (Elt F) Λ₀ .tc) α} :
    (((c : Thread nD τ).loc cc0_stg0_0) ↦{fullShare} f)
      ⊢ iprop(((((c : Thread nD τ).loc cc0_stg0_0) ↦{fullShare} f)
            -∗ wp frame (wpE (defs₀ (F := F)) 𝒱₀ (c : Thread nD τ) none) Set.univ (k (inM.view.readAt (Elt F) (rowRect b r).toLoadRect f)) Q)
          -∗ wp frame (wpE (defs₀ (F := F)) 𝒱₀ (c : Thread nD τ) none) Set.univ
              (.op (.load inM (Rect.unit (s := S1024x512) off S128x512.size hin).toLoadRect hl) k) Q) := by
  subst hoff
  exact wp_load 𝒱₀ (c : Thread nD τ) none Set.univ (m := inM) (r := (rowRect b r).toLoadRect) (Finset.subset_univ _)

/-- The store of a computed segment of the device's own row block. -/
theorem wp_store_out (c : Dev nD) (r : Fin 2) (f : (cc0_stg1_0 : Ref sig .tc).ty.Contents (Elt F))
    {off : Fin 2 → Nat} {hin : ∀ a, off a + S128x512.size a ≤ S1024x512.size a} (hoff : off = rowOff c r)
    {w : S128x512.Idx → Elt F .bf16} (hw : w = redSeg m c r)
    {hx hm} {α : Type} {Q : α → sProp 𝕄} {k : PUnit → Prog (TpuEff nD τ sig (Elt F) Λ₀ .tc) α} :
    outP c c r fullShare f
      ⊢ iprop((outP c c r fullShare (outC m) -∗ wp frame (wpE (defs₀ (F := F)) 𝒱₀ (c : Thread nD τ) none) Set.univ (k ⟨⟩) Q)
          -∗ wp frame (wpE (defs₀ (F := F)) 𝒱₀ (c : Thread nD τ) none) Set.univ
              (.op (.store outM (Rect.unit (s := S1024x512) off S128x512.size hin) w Finset.univ hx hm) k) Q) := by
  subst hoff hw
  rw [← stored_out m c c r f]
  unfold outP
  exact wp_store 𝒱₀ (c : Thread nD τ) none Set.univ (m := outM) (r := rowRect c r) (Mk := Finset.univ)
    (fun i hi => by rw [← View.set_slice_whole cc0_stg1_0 (rowRect c r)]; exact hi)

end Cert.AllReduce

end
-- ==== Proof.State.lean ====
/-
What a device holds when the kernel starts on it and when it ends, and these spelled out segment by segment.
-/
module

public import proofs.«01_k».proof.Proof.Steps

@[expose] public section

set_option maxRecDepth 16384

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Eight segments, four roles -/

/-- Over all segments and shifts: the six in use in the order the kernel takes them, then the two of shift 0. -/
theorem over_chans {M : Type} [URA M] (Φ : Fin 2 × Fin 4 → sProp M) : bigSep Finset.univ Φ
    = iprop(Φ (0, 2) ∗ Φ (0, 1) ∗ Φ (0, 3) ∗ Φ (1, 2) ∗ Φ (1, 1) ∗ Φ (1, 3) ∗ Φ (0, 0) ∗ Φ (1, 0)) :=
  bigSep_univ_eq_bigSepL [(0, 2), (0, 1), (0, 3), (1, 2), (1, 1), (1, 3), (0, 0), (1, 0)] (by decide) (by decide) Φ

/-- Over the four roles. -/
theorem over_roles {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

omit [FloatOps F] in
theorem xb_pieces (c : Dev nD) (f : (cc0_scratch0 : Ref sig .tc).ty.Contents (Elt F)) :
    (((c : Thread nD τ).loc cc0_scratch0) ↦{fullShare} f : sProp 𝕄)
      = iprop(xbP c (up c 2) 0 f ∗ xbP c (up c 1) 0 f ∗ xbP c (up c 3) 0 f ∗ xbP c (up c 2) 1 f ∗ xbP c (up c 1) 1 f ∗ xbP c (up c 3) 1 f
        ∗ xbP c (up c 0) 0 f ∗ xbP c (up c 0) 1 f) := by
  rw [xb_split, over_chans]
omit [FloatOps F] in
theorem rs_pieces (c : Dev nD) (f : (cc0_scratch1 : Ref sig .tc).ty.Contents (Elt F)) :
    (((c : Thread nD τ).loc cc0_scratch1) ↦{fullShare} f : sProp 𝕄)
      = iprop(rsP c 2 0 f ∗ rsP c 1 0 f ∗ rsP c 3 0 f ∗ rsP c 2 1 f ∗ rsP c 1 1 f ∗ rsP c 3 1 f ∗ rsP c 0 0 f ∗ rsP c 0 1 f) := by
  rw [rs_split, over_chans]
omit [FloatOps F] in
theorem out_pieces (c : Dev nD) (f : (cc0_stg1_0 : Ref sig .tc).ty.Contents (Elt F)) :
    (((c : Thread nD τ).loc cc0_stg1_0) ↦{fullShare} f : sProp 𝕄)
      = iprop(outP c (up c 2) 0 fullShare f ∗ outP c (up c 1) 0 fullShare f ∗ outP c (up c 3) 0 fullShare f
        ∗ outP c (up c 2) 1 fullShare f ∗ outP c (up c 1) 1 fullShare f ∗ outP c (up c 3) 1 fullShare f
        ∗ outP c c 0 fullShare f ∗ outP c c 1 fullShare f) := by
  rw [out_split, over_chans, show outP c (up c (((0, 0) : Fin 2 × Fin 4).2)) ((0, 0) : Fin 2 × Fin 4).1 fullShare f = outP c c 0 fullShare f by rw [up_zero],
    show outP c (up c (((1, 0) : Fin 2 × Fin 4).2)) ((1, 0) : Fin 2 × Fin 4).1 fullShare f = outP c c 1 fullShare f by rw [up_zero]]

/-- The four semaphores of segment `r` and shift `j`, at zero. -/
def closed (c : Dev nD) (r : Fin 2) (j : Fin 4) : sProp 𝕄 :=
  iprop(semVal (xcell c 0 r j) 0 ∗ semVal (xcell c 1 r j) 0 ∗ semVal (xcell c 2 r j) 0 ∗ semVal (xcell c 3 r j) 0)

omit [FloatOps F] in
/-- All the kernel's own semaphores at zero. -/
theorem sems_pieces (c : Dev nD) : (Pipeline.ownSems0 (Ix := Unit) (Name := ℕ) (U := UU) (Lvl := ℕ) (Val := Elt F) (τ := τ) osem c : sProp 𝕄)
    = iprop(closed c 0 2 ∗ closed c 0 1 ∗ closed c 0 3 ∗ closed c 1 2 ∗ closed c 1 1 ∗ closed c 1 3 ∗ closed c 0 0 ∗ closed c 1 0) := by
  unfold Pipeline.ownSems0 closed
  rw [bigSep_univ_prod]
  simp only [over_roles]
  rw [over_chans]

/-! ## What a device starts from -/

/-- Its part in the transfers of segment `r` and shift `j`: the right to make both exchanges' and to wait for both. -/
def part (c : Dev nD) (r : Fin 2) (j : Fin 4) : sProp 𝕄 :=
  iprop(ticket c 0 r j ∗ awaits c 1 r j ∗ ticket c 2 r j ∗ awaits c 3 r j)

/-- The positions at the semaphores of shift 0, which nothing uses. -/
def idle (c : Dev nD) (r : Fin 2) : sProp 𝕄 :=
  iprop(atPos ER (xcell c 0 r 0) 0 ∅ 0 ∗ atPos ER (xcell c 1 r 0) 0 ∅ 0 ∗ atPos ER (xcell c 2 r 0) 0 ∅ 0 ∗ atPos ER (xcell c 3 r 0) 0 ∅ 0)

/-- Its part in the barrier: a token for each other device's, and the right to wait on its own. -/
def barPart (c : Dev nD) : sProp 𝕄 :=
  iprop(dutyTok ER (barCell (up c 1)) 0 (neg 1) ∗ dutyTok ER (barCell (up c 2)) 0 (neg 2) ∗ dutyTok ER (barCell (up c 3)) 0 (neg 3)
    ∗ cred (tallyAt (barCell c) () 3) ∗ atPos ER (barCell c) 0 ∅ 0)

/-- All of that, with what every device knows. -/
def ghost (K : Dev nD × Kind → ℕ) (c : Dev nD) : sProp 𝕄 :=
  iprop(records m K ∗ barPart c ∗ part c 0 2 ∗ part c 0 1 ∗ part c 0 3 ∗ part c 1 2 ∗ part c 1 1 ∗ part c 1 3 ∗ idle c 0 ∗ idle c 1)

def start (c : Dev nD) : sProp 𝕄 := iprop(∃ K, ghost m K c)

/-- Before the kernel: its part of the protocol and its two scratch buffers. -/
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- After it: the scratch buffers, and all semaphores at zero. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ Pipeline.ownSems0 (Ix := Unit) (Name := ℕ) (U := UU) (Lvl := ℕ) (Val := Elt F) (τ := τ) osem c ∗ semVal (barCell c) 0)

/-- The proof data of the launch: the input's staging buffer keeps the input, the result's ends at the sum. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outC m
  Φ t := match t with
    | ⟨0, _⟩ => Φ₀ m c
    | ⟨_ + 1, _⟩ => Φ₁ c
  q _ := fullShare
  owed t := match t with
    | ⟨0, _⟩ => owesL c payments
    | ⟨_ + 1, _⟩ => 0

theorem cfg0_N : cfg0.N = 1 := by decide
/-- The grid's one point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Closing the semaphores of shift 0. -/
theorem idle_closed (K : Dev nD × Kind → ℕ) (c : Dev nD) (r : Fin 2) :
    iprop(records m K ∗ idle c r) ⊢ (iprop(|={Set.univ}=> closed c r 0) : sProp 𝕄) := by
  unfold idle closed
  iintro ⟨#HR, H0, H1, H2, H3⟩
  imod (idle_close m K c 0 r) $$ [H0] with H0
  · isplitr; · iexact HR
    iexact H0
  imod (idle_close m K c 1 r) $$ [H1] with H1
  · isplitr; · iexact HR
    iexact H1
  imod (idle_close m K c 2 r) $$ [H2] with H2
  · isplitr; · iexact HR
    iexact H2
  imod (idle_close m K c 3 r) $$ [H3] with H3
  · isplitr; · iexact HR
    iexact H3
  imodintro
  isplitl [H0]; · iexact H0
  isplitl [H1]; · iexact H1
  isplitl [H2] <;> iassumption

end Cert.AllReduce

end
-- ==== Proof.Stages.lean ====
/-
The steps that come together: the two waits of one transfer in each exchange, and the addition of one segment.
-/
module

public import proofs.«01_k».proof.Proof.State

@[expose] public section

set_option maxRecDepth 16384

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every segment of rows credits the same amount, whichever buffer it lies in. -/
theorem credit_seg (d : Memref sig .tc .vmem S128x512 .bf16) : d.view.dmaCredit = N := rfl

/-- Both waits of a transfer of the first exchange: the sent rows are back and the segment of slot `j` has arrived. -/
theorem wp_rs_done (K : Dev nD × Kind → ℕ) (c : Dev nD) (r : Fin 2) (j : Fin 4) (hj : j ≠ 0) {q q' : DmaSem sig} (hq : q = xsem 0 r j) (hq' : q' = xsem 1 r j)
    {sp₁ sp₁' sp₂ sp₂' : Space} {s₁ s₁' s₂ s₂' : Shape} {e₁ e₁' e₂ e₂' : EltTy}
    {src₁ : Memref sig .tc sp₁' s₁' e₁'} {dst₁ : Memref sig .tc sp₁ s₁ e₁} {h₁ h₁'}
    {src₂ : Memref sig .tc sp₂' s₂' e₂'} {dst₂ : Memref sig .tc sp₂ s₂ e₂} {h₂ h₂'}
    (hN₁ : dst₁.view.dmaCredit = N) (hN₂ : dst₂.view.dmaCredit = N) (l : List (Fin 4 × Kind))
    (hl₁ : ∀ p ∈ l, lvl (.dma (xsem 0 r j)) < lvl (csem p.2)) (hl₂ : ∀ p ∈ l, lvl (.dma (xsem 1 r j)) < lvl (csem p.2))
    {α : Type} {Q : α → sProp 𝕄} {k : PUnit → Prog (TpuEff nD τ sig (Elt F) Λ₀ .tc) α} :
    iprop(records m K ∗ owing c l ∗ awaits c 0 r j ∗ awaits c 1 r j)
      ⊢ iprop(((owing c l ∗ semVal (xcell c 0 r j) 0 ∗ semVal (xcell c 1 r j) 0 ∗ xbP c (up c j) r (xbC m c) ∗ rsP c j r (rsC m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src₁ dst₁ h₁ h₁') fun _ => .op (.waitDma2 q' src₂ dst₂ h₂ h₂') k) Q) := by
  iintro ⟨#HR, HO, Ha, Hb⟩ Hk
  iapply (wp_x_wait m K c 0 r j hj hq (xPay_zero m c r j) hN₁ l hl₁) $$ [HO Ha]
  · isplitr; · iexact HR
    isplitl [HO] <;> iassumption
  iintro ⟨HO, Hs, Hp⟩
  iapply (wp_x_wait m K c 1 r j hj hq' (xPay_one m c r j) hN₂ l hl₂) $$ [HO Hb]
  · isplitr; · iexact HR
    isplitl [HO] <;> iassumption
  iintro ⟨HO, Hs', Hp'⟩
  iapply Hk
  isplitl [HO]; · iexact HO
  isplitl [Hs]; · iexact Hs
  isplitl [Hs']; · iexact Hs'
  isplitl [Hp] <;> iassumption

/-- Both waits of a transfer of the second exchange: the lent share is back and the rows of the device `j` places before have arrived. -/
theorem wp_ag_done (K : Dev nD × Kind → ℕ) (c : Dev nD) (r : Fin 2) (j : Fin 4) (hj : j ≠ 0) {q q' : DmaSem sig} (hq : q = xsem 2 r j) (hq' : q' = xsem 3 r j)
    {sp₁ sp₁' sp₂ sp₂' : Space} {s₁ s₁' s₂ s₂' : Shape} {e₁ e₁' e₂ e₂' : EltTy}
    {src₁ : Memref sig .tc sp₁' s₁' e₁'} {dst₁ : Memref sig .tc sp₁ s₁ e₁} {h₁ h₁'}
    {src₂ : Memref sig .tc sp₂' s₂' e₂'} {dst₂ : Memref sig .tc sp₂ s₂ e₂} {h₂ h₂'}
    (hN₁ : dst₁.view.dmaCredit = N) (hN₂ : dst₂.view.dmaCredit = N) (l : List (Fin 4 × Kind))
    (hl₁ : ∀ p ∈ l, lvl (.dma (xsem 2 r j)) < lvl (csem p.2)) (hl₂ : ∀ p ∈ l, lvl (.dma (xsem 3 r j)) < lvl (csem p.2))
    {α : Type} {Q : α → sProp 𝕄} {k : PUnit → Prog (TpuEff nD τ sig (Elt F) Λ₀ .tc) α} :
    iprop(records m K ∗ owing c l ∗ awaits c 2 r j ∗ awaits c 3 r j)
      ⊢ iprop(((owing c l ∗ semVal (xcell c 2 r j) 0 ∗ semVal (xcell c 3 r j) 0 ∗ outP c c r (lent j) (outC m) ∗ outP c (dn c j) r fullShare (outC m))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src₁ dst₁ h₁ h₁') fun _ => .op (.waitDma2 q' src₂ dst₂ h₂ h₂') k) Q) := by
  iintro ⟨#HR, HO, Ha, Hb⟩ Hk
  iapply (wp_x_wait m K c 2 r j hj hq (xPay_two m c r j) hN₁ l hl₁) $$ [HO Ha]
  · isplitr; · iexact HR
    isplitl [HO] <;> iassumption
  iintro ⟨HO, Hs, Hp⟩
  iapply (wp_x_wait m K c 3 r j hj hq' (xPay_three m c r j) hN₂ l hl₂) $$ [HO Hb]
  · isplitr; · iexact HR
    isplitl [HO] <;> iassumption
  iintro ⟨HO, Hs', Hp'⟩
  iapply Hk
  isplitl [HO]; · iexact HO
  isplitl [Hs]; · iexact Hs
  isplitl [Hs']; · iexact Hs'
  isplitl [Hp] <;> iassumption

/-- The addition of segment `r`: the own rows and the three arrived are loaded, the result's rows are stored. -/
theorem wp_reduce (c : Dev nD) (r : Fin 2)
    {off off' off'' : Fin 2 → Nat} {o₁ o₂ o₃ : Fin 3 → Nat}
    {hin : ∀ a, off a + S128x512.size a ≤ S1024x512.size a} {hin' : ∀ a, off' a + S128x512.size a ≤ S1024x512.size a}
    {hin'' : ∀ a, off'' a + S128x512.size a ≤ S1024x512.size a}
    {hi₁ : ∀ a, o₁ a + S1x128x512.size a ≤ S4x256x512.size a} {hi₂ : ∀ a, o₂ a + S1x128x512.size a ≤ S4x256x512.size a}
    {hi₃ : ∀ a, o₃ a + S1x128x512.size a ≤ S4x256x512.size a}
    (hoff : off = rowOff c r) (hoff' : off' = rowOff c r) (hoff'' : off'' = rowOff c r)
    (ho₁ : o₁ = slotOff 1 r) (ho₂ : o₂ = slotOff 2 r) (ho₃ : o₃ = slotOff 3 r)
    {p : FVec F S128x512 .bf16 → FVec F S1x128x512 .bf16 → FVec F S1x128x512 .bf16 → FVec F S1x128x512 .bf16 → FVec F S128x512 .bf16} (hp : p = k0_pay2)
    {hl₀ hl₁ hl₂ hl₃ hl₄ hx hm} {α : Type} {Q : α → sProp 𝕄} {k : PUnit → Prog (TpuEff nD τ sig (Elt F) Λ₀ .tc) α} :
    iprop((((c : Thread nD τ).loc cc0_stg0_0) ↦{fullShare} xstg m c)
        ∗ rsP c 1 r (rsC m c) ∗ rsP c 2 r (rsC m c) ∗ rsP c 3 r (rsC m c) ∗ ∃ g, outP c c r fullShare g)
      ⊢ iprop((((((c : Thread nD τ).loc cc0_stg0_0) ↦{fullShare} xstg m c)
              ∗ rsP c 1 r (rsC m c) ∗ rsP c 2 r (rsC m c) ∗ rsP c 3 r (rsC m c) ∗ outP c c r fullShare (outC m))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load inM (Rect.unit (s := S1024x512) off S128x512.size hin).toLoadRect hl₀) fun (v₀ : S128x512.Idx → Elt F .bf16) =>
                .op (.load rsM (Rect.unit (s := S4x256x512) o₁ S1x128x512.size hi₁).toLoadRect hl₁) fun (v₁ : S1x128x512.Idx → Elt F .bf16) =>
                .op (.load rsM (Rect.unit (s := S4x256x512) o₂ S1x128x512.size hi₂).toLoadRect hl₂) fun (v₂ : S1x128x512.Idx → Elt F .bf16) =>
                .op (.load rsM (Rect.unit (s := S4x256x512) o₃ S1x128x512.size hi₃).toLoadRect hl₃) fun (v₃ : S1x128x512.Idx → Elt F .bf16) =>
                .op (.load outM (Rect.unit (s := S1024x512) off' S128x512.size hin').toLoadRect hl₄) fun _ =>
                .op (.store outM (Rect.unit (s := S1024x512) off'' S128x512.size hin'') (p v₀ v₁ v₂ v₃) Finset.univ hx hm) k) Q) := by
  subst hp
  iintro ⟨Hin, H1, H2, H3, ⟨%g, Ho⟩⟩ Hk
  iapply (wp_load_in c c r (xstg m c) hoff) $$ Hin; iintro Hin
  iapply (wp_load_rs c 1 r (rsC m c) ho₁) $$ H1; iintro H1
  iapply (wp_load_rs c 2 r (rsC m c) ho₂) $$ H2; iintro H2
  iapply (wp_load_rs c 3 r (rsC m c) ho₃) $$ H3; iintro H3
  iapply (wp_load_out c c r g hoff') $$ Ho; iintro Ho
  iapply (wp_store_out m c r g hoff'' rfl) $$ Ho; iintro Ho
  iapply Hk
  isplitl [Hin]; · iexact Hin
  isplitl [H1]; · iexact H1
  isplitl [H2]; · iexact H2
  isplitl [H3] <;> iassumption

/-- The copy of the input into the scratch buffer the transfers read. -/
theorem wp_copy (c : Dev nD) (f : (cc0_scratch0 : Ref sig .tc).ty.Contents (Elt F))
    {hi₁ hi₂ hi₃ : ∀ a, (![0, 0] : Fin 2 → Nat) a + S1024x512.size a ≤ S1024x512.size a} {hl₀ hl₁ hx hm}
    {α : Type} {Q : α → sProp 𝕄} {k : PUnit → Prog (TpuEff nD τ sig (Elt F) Λ₀ .tc) α} :
    iprop((((c : Thread nD τ).loc cc0_stg0_0) ↦{fullShare} xstg m c) ∗ (((c : Thread nD τ).loc cc0_scratch0) ↦{fullShare} f))
      ⊢ iprop((((((c : Thread nD τ).loc cc0_stg0_0) ↦{fullShare} xstg m c) ∗ (((c : Thread nD τ).loc cc0_scratch0) ↦{fullShare} xbC m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load inM (Rect.unit (s := S1024x512) ![0, 0] S1024x512.size hi₁).toLoadRect hl₀) fun (v : S1024x512.Idx → Elt F .bf16) =>
                .op (.load xbM (Rect.unit (s := S1024x512) ![0, 0] S1024x512.size hi₂).toLoadRect hl₁) fun _ =>
                .op (.store xbM (Rect.unit (s := S1024x512) ![0, 0] S1024x512.size hi₃) (k0_pay1 v) Finset.univ hx hm) k) Q) := by
  have hz : (![0, 0] : Fin 2 → Nat) = 0 := by funext a; fin_cases a <;> rfl
  iintro ⟨Hin, Hx⟩ Hk
  iapply (wp_load 𝒱₀ (c : Thread nD τ) none Set.univ (m := inM) (Finset.subset_univ _)) $$ Hin; iintro Hin
  iapply (wp_load 𝒱₀ (c : Thread nD τ) none Set.univ (m := xbM) (Finset.subset_univ _)) $$ Hx; iintro Hx
  iapply (wp_store 𝒱₀ (c : Thread nD τ) none Set.univ (m := xbM)
    (r := Rect.unit (s := S1024x512) ![0, 0] S1024x512.size hi₃) (Mk := Finset.univ) (Finset.subset_univ _)) $$ Hx; iintro Hx
  have h1 : inM.view.readAt (Elt F) (Rect.unit (s := S1024x512) ![0, 0] S1024x512.size hi₁).toLoadRect (xstg m c) = xstg m c :=
    Memref.readAt_unit_zero (Elt F) cc0_stg0_0 hz _ _
  have h2 : k0_pay1 (xstg m c) = xstg m c := by
    unfold k0_pay1
    simp only [shapeCast_self]
  have h3 : (xbM.access (Rect.unit (s := S1024x512) ![0, 0] S1024x512.size hi₃)).write (Elt F) f (xstg m c) Finset.univ = xbC m c :=
    Memref.write_access_unit_zero_univ (Elt F) cc0_scratch0 hz _ f _
  rw [h1, h2, h3]
  iapply Hk
  isplitl [Hin] <;> iassumption

end Cert.AllReduce

end
-- ==== Proof.Body.lean ====
/-
The kernel's body, followed step by step on one device, from what it starts with to what it leaves.
-/
module

public import proofs.«01_k».proof.Proof.Stages
public import proofs.«01_k».proof.Proof.Gen.KernelIdeal.Points

@[expose] public section

set_option maxRecDepth 16384

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Before the body: the protocol's part, what is owed, and both staging buffers. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- After it: the input still there, the result complete. -/
def bodyPost (c : Dev nD) : sProp 𝕄 :=
  iprop(Φ₁ c ∗ (dats m 0 c).owesAt () t₀.succ ∗ stg c cc0_stg0_0 (xstg m c) ∗ stg c cc0_stg1_0 (outC m))

set_option maxHeartbeats 4000000 in
/-- The body, one rule per step in program order. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  unfold bodyPre Φ₀ start ghost barPart part
  iintro ⟨⟨⟨⟨%K, #HR, ⟨HtB1, HtB2, HtB3, HcB, HatB⟩, ⟨Ht0A2, Hw1A2, Ht2A2, Hw3A2⟩, ⟨Ht0A1, Hw1A1, Ht2A1, Hw3A1⟩, ⟨Ht0A3, Hw1A3, Ht2A3, Hw3A3⟩, ⟨Ht0B2, Hw1B2, Ht2B2, Hw3B2⟩, ⟨Ht0B1, Hw1B1, Ht2B1, Hw3B1⟩, ⟨Ht0B3, Hw1B3, Ht2B3, Hw3B3⟩, HiA, HiB⟩, ⟨%fx, Hxb⟩, ⟨%fr, Hrs⟩⟩,
    HO, ⟨%d0, %g0, %hg0, Hin⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases HO with ⟨%W, %hW, HO⟩
  rw [show (dats m 0 c).owed t₀.castSucc = owesL c payments from rfl]
  ihave HO := (show owes (c : Thread nD τ) (owesL c payments) W ⊢ (owing c payments : sProp 𝕄) by unfold owing; iintro H; iexists W; iexact H) $$ HO
  ihave Hrs' := (Entails.of_eq (rs_pieces c fr)) $$ Hrs
  icases Hrs' with ⟨HrA2, HrA1, HrA3, HrB2, HrB1, HrB3, HrA0, HrB0⟩
  ihave Hout' := (Entails.of_eq (out_pieces c g1)) $$ Hout
  icases Hout' with ⟨HoA2, HoA1, HoA3, HoB2, HoB1, HoB3, HoA0, HoB0⟩
  iapply (wp_bar m K c _ 1 (dev1_eq c) (by decide) rfl (by decide) (payments.drop 1)) $$ [HO HtB1 HrA3 HrB3 HoA1 HoB1]
  · isplitr; · iexact HR
    isplitl [HO]; · iexact HO
    isplitl [HtB1]; · iexact HtB1
    isplitl [HrA3]; · iexists _; iexact HrA3
    isplitl [HrB3]; · iexists _; iexact HrB3
    isplitl [HoA1]; · iexists _; iexact HoA1
    iexists _; iexact HoB1
  iintro HO
  iapply (wp_bar m K c _ 2 (dev2_eq c) (by decide) rfl (by decide) (payments.drop 2)) $$ [HO HtB2 HrA2 HrB2 HoA2 HoB2]
  · isplitr; · iexact HR
    isplitl [HO]; · iexact HO
    isplitl [HtB2]; · iexact HtB2
    isplitl [HrA2]; · iexists _; iexact HrA2
    isplitl [HrB2]; · iexists _; iexact HrB2
    isplitl [HoA2]; · iexists _; iexact HoA2
    iexists _; iexact HoB2
  iintro HO
  iapply (wp_bar m K c _ 3 (dev3_eq c) (by decide) rfl (by decide) (payments.drop 3)) $$ [HO HtB3 HrA1 HrB1 HoA3 HoB3]
  · isplitr; · iexact HR
    isplitl [HO]; · iexact HO
    isplitl [HtB3]; · iexact HtB3
    isplitl [HrA1]; · iexists _; iexact HrA1
    isplitl [HrB1]; · iexists _; iexact HrB1
    isplitl [HoA3]; · iexists _; iexact HoA3
    iexists _; iexact HoB3
  iintro HO
  iapply (wp_copy m c fx) $$ [Hin Hxb]
  · isplitl [Hin] <;> iassumption
  iintro ⟨Hin, Hxb⟩
  ihave Hxb' := (Entails.of_eq (xb_pieces c (xbC m c))) $$ Hxb
  icases Hxb' with ⟨HxA2, HxA1, HxA3, HxB2, HxB1, HxB3, HxA0, HxB0⟩
  iapply (wp_bar_wait m K c rfl (by decide) (payments.drop 3) (by decide)) $$ [HO HcB HatB]
  · isplitr; · iexact HR
    isplitl [HO]; · iexact HO
    isplitl [HcB]; · iexact HcB
    iexact HatB
  iintro ⟨HO, HzB, Hp1, Hp2, Hp3⟩
  unfold barPay
  icases Hp1 with ⟨HdA1, HdB1, HeA1, HeB1⟩
  icases Hp2 with ⟨HdA2, HdB2, HeA2, HeB2⟩
  icases Hp3 with ⟨HdA3, HdB3, HeA3, HeB3⟩
  iapply (wp_rs_send m K c _ 0 2 (by decide) (dev4_eq c) (off1_eq c 1 0) rfl rfl rfl (payments.drop 4)) $$ [HO Ht0A2 HxA2 HdA2]
  · isplitr; · iexact HR
    isplitl [HO]; · iexact HO
    isplitl [Ht0A2]; · iexact Ht0A2
    isplitl [HxA2]; · iexact HxA2
    iexact HdA2
  iintro ⟨HO, Hw0A2⟩
  iapply (wp_rs_send m K c _ 0 1 (by decide) (dev5_eq c) (off1_eq c 0 0) rfl rfl rfl (payments.drop 5)) $$ [HO Ht0A1 HxA1 HdA1]
  · isplitr; · iexact HR
    isplitl [HO]; · iexact HO
    isplitl [Ht0A1]; · iexact Ht0A1
    isplitl [HxA1]; · iexact HxA1
    iexact HdA1
  iintro ⟨HO, Hw0A1⟩
  iapply (wp_rs_send m K c _ 0 3 (by decide) (dev6_eq c) (off1_eq c 2 0) rfl rfl rfl (payments.drop 6)) $$ [HO Ht0A3 HxA3 HdA3]
  · isplitr; · iexact HR
    isplitl [HO]; · iexact HO
    isplitl [Ht0A3]; · iexact Ht0A3
    isplitl [HxA3]; · iexact HxA3
    iexact HdA3
  iintro ⟨HO, Hw0A3⟩
  iapply (wp_rs_send m K c _ 1 2 (by decide) (dev7_eq c) (off1_eq c 1 1) rfl rfl rfl (payments.drop 7)) $$ [HO Ht0B2 HxB2 HdB2]
  · isplitr; · iexact HR
    isplitl [HO]; · iexact HO
    isplitl [Ht0B2]; · iexact Ht0B2
    isplitl [HxB2]; · iexact HxB2
    iexact HdB2
  iintro ⟨HO, Hw0B2⟩
  iapply (wp_rs_send m K c _ 1 1 (by decide) (dev8_eq c) (off1_eq c 0 1) rfl rfl rfl (payments.drop 8)) $$ [HO Ht0B1 HxB1 HdB1]
  · isplitr; · iexact HR
    isplitl [HO]; · iexact HO
    isplitl [Ht0B1]; · iexact Ht0B1
    isplitl [HxB1]; · iexact HxB1
    iexact HdB1
  iintro ⟨HO, Hw0B1⟩
  iapply (wp_rs_send m K c _ 1 3 (by decide) (dev9_eq c) (off1_eq c 2 1) rfl rfl rfl (payments.drop 9)) $$ [HO Ht0B3 HxB3 HdB3]
  · isplitr; · iexact HR
    isplitl [HO]; · iexact HO
    isplitl [Ht0B3]; · iexact Ht0B3
    isplitl [HxB3]; · iexact HxB3
    iexact HdB3
  iintro ⟨HO, Hw0B3⟩
  iapply (wp_rs_done m K c 0 2 (by decide) rfl rfl (credit_seg _) (credit_seg _) (payments.drop 9) (by decide) (by decide)) $$ [HO Hw0A2 Hw1A2]
  · isplitr; · iexact HR
    isplitl [HO]; · iexact HO
    isplitl [Hw0A2]; · iexact Hw0A2
    iexact Hw1A2
  iintro ⟨HO, Hs0A2, Hs1A2, HxA2, HrA2⟩
  iapply (wp_rs_done m K c 0 1 (by decide) rfl rfl (credit_seg _) (credit_seg _) (payments.drop 9) (by decide) (by decide)) $$ [HO Hw0A1 Hw1A1]
  · isplitr; · iexact HR
    isplitl [HO]; · iexact HO
    isplitl [Hw0A1]; · iexact Hw0A1
    iexact Hw1A1
  iintro ⟨HO, Hs0A1, Hs1A1, HxA1, HrA1⟩
  iapply (wp_rs_done m K c 0 3 (by decide) rfl rfl (credit_seg _) (credit_seg _) (payments.drop 9) (by decide) (by decide)) $$ [HO Hw0A3 Hw1A3]
  · isplitr; · iexact HR
    isplitl [HO]; · iexact HO
    isplitl [Hw0A3]; · iexact Hw0A3
    iexact Hw1A3
  iintro ⟨HO, Hs0A3, Hs1A3, HxA3, HrA3⟩
  iapply (wp_reduce m c 0 (off2_eq c 0) (off2_eq c 0) (off2_eq c 0) rfl rfl rfl rfl) $$ [Hin HrA1 HrA2 HrA3 HoA0]
  · isplitl [Hin]; · iexact Hin
    isplitl [HrA1]; · iexact HrA1
    isplitl [HrA2]; · iexact HrA2
    isplitl [HrA3]; · iexact HrA3
    iexists _; iexact HoA0
  iintro ⟨Hin, HrA1, HrA2, HrA3, HoA0⟩
  icases (out_thirds c c 0 (outC m)).1 $$ HoA0 with ⟨HlA1, HlA2, HlA3⟩
  iapply (wp_ag_send m K c _ 0 2 (by decide) (dev10_eq c) (off3_eq c 0) rfl rfl (payments.drop 10)) $$ [HO Ht2A2 HlA2 HeA2]
  · isplitr; · iexact HR
    isplitl [HO]; · iexact HO
    isplitl [Ht2A2]; · iexact Ht2A2
    isplitl [HlA2]; · iexact HlA2
    iexact HeA2
  iintro ⟨HO, Hw2A2⟩
  iapply (wp_ag_send m K c _ 0 1 (by decide) (dev11_eq c) (off3_eq c 0) rfl rfl (payments.drop 11)) $$ [HO Ht2A1 HlA1 HeA1]
  · isplitr; · iexact HR
    isplitl [HO]; · iexact HO
    isplitl [Ht2A1]; · iexact Ht2A1
    isplitl [HlA1]; · iexact HlA1
    iexact HeA1
  iintro ⟨HO, Hw2A1⟩
  iapply (wp_ag_send m K c _ 0 3 (by decide) (dev12_eq c) (off3_eq c 0) rfl rfl (payments.drop 12)) $$ [HO Ht2A3 HlA3 HeA3]
  · isplitr; · iexact HR
    isplitl [HO]; · iexact HO
    isplitl [Ht2A3]; · iexact Ht2A3
    isplitl [HlA3]; · iexact HlA3
    iexact HeA3
  iintro ⟨HO, Hw2A3⟩
  iapply (wp_rs_done m K c 1 2 (by decide) rfl rfl (credit_seg _) (credit_seg _) (payments.drop 12) (by decide) (by decide)) $$ [HO Hw0B2 Hw1B2]
  · isplitr; · iexact HR
    isplitl [HO]; · iexact HO
    isplitl [Hw0B2]; · iexact Hw0B2
    iexact Hw1B2
  iintro ⟨HO, Hs0B2, Hs1B2, HxB2, HrB2⟩
  iapply (wp_rs_done m K c 1 1 (by decide) rfl rfl (credit_seg _) (credit_seg _) (payments.drop 12) (by decide) (by decide)) $$ [HO Hw0B1 Hw1B1]
  · isplitr; · iexact HR
    isplitl [HO]; · iexact HO
    isplitl [Hw0B1]; · iexact Hw0B1
    iexact Hw1B1
  iintro ⟨HO, Hs0B1, Hs1B1, HxB1, HrB1⟩
  iapply (wp_rs_done m K c 1 3 (by decide) rfl rfl (credit_seg _) (credit_seg _) (payments.drop 12) (by decide) (by decide)) $$ [HO Hw0B3 Hw1B3]
  · isplitr; · iexact HR
    isplitl [HO]; · iexact HO
    isplitl [Hw0B3]; · iexact Hw0B3
    iexact Hw1B3
  iintro ⟨HO, Hs0B3, Hs1B3, HxB3, HrB3⟩
  iapply (wp_reduce m c 1 (off2_eq c 1) (off2_eq c 1) (off2_eq c 1) rfl rfl rfl rfl) $$ [Hin HrB1 HrB2 HrB3 HoB0]
  · isplitl [Hin]; · iexact Hin
    isplitl [HrB1]; · iexact HrB1
    isplitl [HrB2]; · iexact HrB2
    isplitl [HrB3]; · iexact HrB3
    iexists _; iexact HoB0
  iintro ⟨Hin, HrB1, HrB2, HrB3, HoB0⟩
  icases (out_thirds c c 1 (outC m)).1 $$ HoB0 with ⟨HlB1, HlB2, HlB3⟩
  iapply (wp_ag_send m K c _ 1 2 (by decide) (dev13_eq c) (off3_eq c 1) rfl rfl (payments.drop 13)) $$ [HO Ht2B2 HlB2 HeB2]
  · isplitr; · iexact HR
    isplitl [HO]; · iexact HO
    isplitl [Ht2B2]; · iexact Ht2B2
    isplitl [HlB2]; · iexact HlB2
    iexact HeB2
  iintro ⟨HO, Hw2B2⟩
  iapply (wp_ag_send m K c _ 1 1 (by decide) (dev14_eq c) (off3_eq c 1) rfl rfl (payments.drop 14)) $$ [HO Ht2B1 HlB1 HeB1]
  · isplitr; · iexact HR
    isplitl [HO]; · iexact HO
    isplitl [Ht2B1]; · iexact Ht2B1
    isplitl [HlB1]; · iexact HlB1
    iexact HeB1
  iintro ⟨HO, Hw2B1⟩
  iapply (wp_ag_send m K c _ 1 3 (by decide) (dev15_eq c) (off3_eq c 1) rfl rfl (payments.drop 15)) $$ [HO Ht2B3 HlB3 HeB3]
  · isplitr; · iexact HR
    isplitl [HO]; · iexact HO
    isplitl [Ht2B3]; · iexact Ht2B3
    isplitl [HlB3]; · iexact HlB3
    iexact HeB3
  iintro ⟨HO, Hw2B3⟩
  iapply (wp_ag_done m K c 0 2 (by decide) rfl rfl (credit_seg _) (credit_seg _) (payments.drop 15) (by decide) (by decide)) $$ [HO Hw2A2 Hw3A2]
  · isplitr; · iexact HR
    isplitl [HO]; · iexact HO
    isplitl [Hw2A2]; · iexact Hw2A2
    iexact Hw3A2
  iintro ⟨HO, Hs2A2, Hs3A2, HlA2, HoA2⟩
  iapply (wp_ag_done m K c 0 1 (by decide) rfl rfl (credit_seg _) (credit_seg _) (payments.drop 15) (by decide) (by decide)) $$ [HO Hw2A1 Hw3A1]
  · isplitr; · iexact HR
    isplitl [HO]; · iexact HO
    isplitl [Hw2A1]; · iexact Hw2A1
    iexact Hw3A1
  iintro ⟨HO, Hs2A1, Hs3A1, HlA1, HoA3⟩
  iapply (wp_ag_done m K c 0 3 (by decide) rfl rfl (credit_seg _) (credit_seg _) (payments.drop 15) (by decide) (by decide)) $$ [HO Hw2A3 Hw3A3]
  · isplitr; · iexact HR
    isplitl [HO]; · iexact HO
    isplitl [Hw2A3]; · iexact Hw2A3
    iexact Hw3A3
  iintro ⟨HO, Hs2A3, Hs3A3, HlA3, HoA1⟩
  iapply (wp_ag_done m K c 1 2 (by decide) rfl rfl (credit_seg _) (credit_seg _) (payments.drop 15) (by decide) (by decide)) $$ [HO Hw2B2 Hw3B2]
  · isplitr; · iexact HR
    isplitl [HO]; · iexact HO
    isplitl [Hw2B2]; · iexact Hw2B2
    iexact Hw3B2
  iintro ⟨HO, Hs2B2, Hs3B2, HlB2, HoB2⟩
  iapply (wp_ag_done m K c 1 1 (by decide) rfl rfl (credit_seg _) (credit_seg _) (payments.drop 15) (by decide) (by decide)) $$ [HO Hw2B1 Hw3B1]
  · isplitr; · iexact HR
    isplitl [HO]; · iexact HO
    isplitl [Hw2B1]; · iexact Hw2B1
    iexact Hw3B1
  iintro ⟨HO, Hs2B1, Hs3B1, HlB1, HoB3⟩
  iapply (wp_ag_done m K c 1 3 (by decide) rfl rfl (credit_seg _) (credit_seg _) (payments.drop 15) (by decide) (by decide)) $$ [HO Hw2B3 Hw3B3]
  · isplitr; · iexact HR
    isplitl [HO]; · iexact HO
    isplitl [Hw2B3]; · iexact Hw2B3
    iexact Hw3B3
  iintro ⟨HO, Hs2B3, Hs3B3, HlB3, HoB1⟩
  ihave HoA0 := (out_thirds c c 0 (outC m)).2 $$ [HlA1 HlA2 HlA3]
  · isplitl [HlA1]; · iexact HlA1
    isplitl [HlA2] <;> iassumption
  imod (idle_closed m K c 0) $$ [HiA] with HzA
  · isplitr; · iexact HR
    iexact HiA
  ihave HoB0 := (out_thirds c c 1 (outC m)).2 $$ [HlB1 HlB2 HlB3]
  · isplitl [HlB1]; · iexact HlB1
    isplitl [HlB2] <;> iassumption
  imod (idle_closed m K c 1) $$ [HiB] with HzB'
  · isplitr; · iexact HR
    iexact HiB
  rw [wp_ret]; imodintro
  iapply Hk
  unfold bodyPost Φ₁
  isplitl [HxA2 HxA1 HxA3 HxB2 HxB1 HxB3 HxA0 HxB0 HrA2 HrA1 HrA3 HrB2 HrB1 HrB3 HrA0 HrB0 Hs0A2 Hs1A2 Hs2A2 Hs3A2 Hs0A1 Hs1A1 Hs2A1 Hs3A1 Hs0A3 Hs1A3 Hs2A3 Hs3A3 Hs0B2 Hs1B2 Hs2B2 Hs3B2 Hs0B1 Hs1B1 Hs2B1 Hs3B1 Hs0B3 Hs1B3 Hs2B3 Hs3B3 HzA HzB' HzB]
  · isplitl [HxA2 HxA1 HxA3 HxB2 HxB1 HxB3 HxA0 HxB0]
    · iexists (xbC m c); rw [xb_pieces]
      isplitl [HxA2]; · iexact HxA2
      isplitl [HxA1]; · iexact HxA1
      isplitl [HxA3]; · iexact HxA3
      isplitl [HxB2]; · iexact HxB2
      isplitl [HxB1]; · iexact HxB1
      isplitl [HxB3]; · iexact HxB3
      isplitl [HxA0]; · iexact HxA0
      iexact HxB0
    isplitl [HrA2 HrA1 HrA3 HrB2 HrB1 HrB3 HrA0 HrB0]
    · iapply (rs_join c fr); rw [over_chans]
      isplitl [HrA2]; · iexists _; iexact HrA2
      isplitl [HrA1]; · iexists _; iexact HrA1
      isplitl [HrA3]; · iexists _; iexact HrA3
      isplitl [HrB2]; · iexists _; iexact HrB2
      isplitl [HrB1]; · iexists _; iexact HrB1
      isplitl [HrB3]; · iexists _; iexact HrB3
      isplitl [HrA0]; · iexists _; iexact HrA0
      iexists _; iexact HrB0
    isplitl [Hs0A2 Hs1A2 Hs2A2 Hs3A2 Hs0A1 Hs1A1 Hs2A1 Hs3A1 Hs0A3 Hs1A3 Hs2A3 Hs3A3 Hs0B2 Hs1B2 Hs2B2 Hs3B2 Hs0B1 Hs1B1 Hs2B1 Hs3B1 Hs0B3 Hs1B3 Hs2B3 Hs3B3 HzA HzB']
    · rw [sems_pieces]; unfold closed
      isplitl [Hs0A2 Hs1A2 Hs2A2 Hs3A2]
      · isplitl [Hs0A2]; · iexact Hs0A2
        isplitl [Hs1A2]; · iexact Hs1A2
        isplitl [Hs2A2]; · iexact Hs2A2
        iexact Hs3A2
      isplitl [Hs0A1 Hs1A1 Hs2A1 Hs3A1]
      · isplitl [Hs0A1]; · iexact Hs0A1
        isplitl [Hs1A1]; · iexact Hs1A1
        isplitl [Hs2A1]; · iexact Hs2A1
        iexact Hs3A1
      isplitl [Hs0A3 Hs1A3 Hs2A3 Hs3A3]
      · isplitl [Hs0A3]; · iexact Hs0A3
        isplitl [Hs1A3]; · iexact Hs1A3
        isplitl [Hs2A3]; · iexact Hs2A3
        iexact Hs3A3
      isplitl [Hs0B2 Hs1B2 Hs2B2 Hs3B2]
      · isplitl [Hs0B2]; · iexact Hs0B2
        isplitl [Hs1B2]; · iexact Hs1B2
        isplitl [Hs2B2]; · iexact Hs2B2
        iexact Hs3B2
      isplitl [Hs0B1 Hs1B1 Hs2B1 Hs3B1]
      · isplitl [Hs0B1]; · iexact Hs0B1
        isplitl [Hs1B1]; · iexact Hs1B1
        isplitl [Hs2B1]; · iexact Hs2B1
        iexact Hs3B1
      isplitl [Hs0B3 Hs1B3 Hs2B3 Hs3B3]
      · isplitl [Hs0B3]; · iexact Hs0B3
        isplitl [Hs1B3]; · iexact Hs1B3
        isplitl [Hs2B3]; · iexact Hs2B3
        iexact Hs3B3
      isplitl [HzA] <;> iassumption
    iexact HzB
  isplitl [HO]
  · unfold Dat.owesAt Pipeline.owesWithin owing
    icases HO with ⟨%W', HO⟩
    rw [show (dats m 0 c).owed t₀.succ = 0 from rfl]
    iexists W'
    isplitr; · ipureintro; exact fun _ _ => Or.inl trivial
    iexact HO
  isplitl [Hin]
  · iexists _; isplitr; · (ipureintro; rfl)
    iexact Hin
  iexists _; isplitr; · (ipureintro; rfl)
  rw [out_pieces]
  isplitl [HoA2]; · iexact HoA2
  isplitl [HoA1]; · iexact HoA1
  isplitl [HoA3]; · iexact HoA3
  isplitl [HoB2]; · iexact HoB2
  isplitl [HoB1]; · iexact HoB1
  isplitl [HoB3]; · iexact HoB3
  isplitl [HoA0]; · iexact HoA0
  iexact HoB0

omit [FloatOps F] in
/-- A whole staging buffer held through its window is the buffer held at those contents. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg
  simp only [Memref.view_whole, View.read_whole, View.set_whole]

/-- What the launch asks of the body, at its one grid point. -/
theorem body_obligation (c : Dev nD) : BodyObligation (dats (F := F) m 0 c) (defs₀ (F := F)) 𝒱₀ () Set.univ := fun t => by
  rw [fin_N t, bigSep_W0, bigSep_W0]
  simp only [owns_stg]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m c)
  iintro H
  iapply (sound_body m c fun _ => bodyPost m c)
  isplitl [H]; · iexact H
  iintro H; iexact H

end Cert.AllReduce

end
-- ==== Proof.Deal.lean ====
/-
The start of the launch: the tokens and positions created for every semaphore, and how they are dealt to the devices, each
token to the device that pays it.
-/
module

public import proofs.«01_k».proof.Proof.State

@[expose] public section

set_option maxRecDepth 16384

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is created -/

def cellSet : Finset (GSem nD τ sig) := Finset.univ.map ⟨kcell, kcell_inj⟩

/-- The payments a device's semaphores await: four at the barrier (the last unused), one at every other. -/
abbrev Pay : Type := Fin 4 ⊕ Chan
/-- The semaphore of a payment, and its number there. -/
abbrev payKind : Pay → Kind
  | .inl _ => .inl ()
  | .inr x => .inr x
abbrev payDuty : Pay → Fin 4
  | .inl j => j
  | .inr _ => 0
/-- How many places after the payer the paid device lies. -/
abbrev hop : Pay → Fin 4
  | .inl j => neg j
  | .inr x => if x.2 = 1 ∨ x.2 = 3 then x.1.2 else 0

abbrev tokOf (x : Dev nD × Pay) : GSem nD τ sig × ℕ × Fin 4 := (kcell (x.1, payKind x.2), 0, payDuty x.2)
theorem tokOf_inj : Function.Injective tokOf := by
  rintro ⟨c, t⟩ ⟨c', t'⟩ h
  have h1 : (c, payKind t) = (c', payKind t') := kcell_inj (congrArg Prod.fst h)
  have h2 : payDuty t = payDuty t' := congrArg (fun x : GSem nD τ sig × ℕ × Fin 4 => x.2.2) h
  have h3 := congrArg Prod.snd h1
  refine Prod.ext (show c = c' from congrArg Prod.fst h1) ?_
  dsimp only at h2 h3 ⊢
  rcases t with t | t <;> rcases t' with t' | t'
  · exact congrArg Sum.inl h2
  · exact absurd h3 (by simp)
  · exact absurd h3 (by simp)
  · exact congrArg Sum.inr (Sum.inr.inj h3)
def tokSet : Finset (GSem nD τ sig × ℕ × Fin 4) := Finset.univ.map ⟨tokOf, tokOf_inj⟩

def u₀ : UU :=
  (initOf (Pipeline.cells cfgs cellOf_inj) (Pipeline.launchToks cfgs cellOf_inj), initOf cellSet tokSet)

/-- The token of payment `t` to device `c`. -/
def tok (c : Dev nD) (t : Pay) : sProp 𝕄 := dutyTok ER (kcell (c, payKind t)) 0 (payDuty t)
/-- The tokens of a device's own semaphores. -/
def toks (c : Dev nD) : sProp 𝕄 := bigSep Finset.univ fun t : Pay => tok c t
/-- The tokens a device pays with. -/
def payToks (c : Dev nD) : sProp 𝕄 := bigSep Finset.univ fun t : Pay => tok (up c (hop t)) t

/-- Created for device `c`: the states, positions and round marks of its semaphores, and their tokens. -/
def G (c : Dev nD) : sProp 𝕄 :=
  iprop((bigSep Finset.univ fun k : Kind => roundState ER (sched m) (kcell (c, k)) 0)
    ∗ (bigSep Finset.univ fun k : Kind => atPos ER (kcell (c, k)) 0 ∅ 0) ∗ (bigSep Finset.univ fun k : Kind => reached ER (kcell (c, k)) 0) ∗ toks c)

/-- What a device gets of it for itself: its positions and the tokens it pays with. -/
def own (c : Dev nD) : sProp 𝕄 := iprop((bigSep Finset.univ fun k : Kind => atPos ER (kcell (c, k)) 0 ∅ 0) ∗ payToks c)

/-- Every semaphore's invariant and round mark. -/
def marks (K : Dev nD × Kind → ℕ) : sProp 𝕄 :=
  iprop((bigSep Finset.univ fun ck : Dev nD × Kind => cellInv ER (sched m) (K ck) (kcell ck)) ∗ bigSep Finset.univ fun ck : Dev nD × Kind => reached ER (kcell ck) 0)
instance marks_persistent (K : Dev nD × Kind → ℕ) : BI.Persistent (marks m K) := by unfold marks; infer_instance

def G' (c : Dev nD) : sProp 𝕄 := iprop(∃ K, marks m K ∗ own c)

theorem fund : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Kind => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]; rfl
  iintro HX
  imod (Rounds.fund ER (sched m) cellSet tokSet) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## Dealing -/

/-- Over the one element of `Unit`. -/
theorem over_unit {M : Type} [URA M] (Φ : Unit → sProp M) : bigSep Finset.univ Φ = Φ () :=
  bigSep_univ_eq_bigSepL [()] (by decide) (by decide) Φ

omit [FloatOps F] in
/-- The barrier's semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (kcell (c, k)) 0 : sProp 𝕄) := by
  rw [BI.bigSep_univ_sum, unscopedSems0_eq, over_unit]
  unfold Pipeline.ownSems0
  show _ ⊢ iprop(semVal (barCell c) 0 ∗ bigSep Finset.univ fun x : Chan => semVal (kcell (c, .inr x)) 0)
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Kind => atPos ER (kcell (c, k)) 0 ∅ 0) ∗ (bigSep Finset.univ fun k : Kind => reached ER (kcell (c, k)) 0) ∗ toks c) := by
  unfold G
  iintro ⟨Hos, Hus, Hst, Hrest⟩
  ihave Hv := (sems_all (F := F) c) $$ [Hos Hus]
  · isplitl [Hos] <;> iassumption
  imod (show iprop((bigSep Finset.univ fun k : Kind => semVal (kcell (c, k)) 0) ∗ bigSep Finset.univ fun k : Kind => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv] <;> iassumption

omit [FloatOps F] in
/-- Every token moved to the device that pays it: payment by payment, a permutation of the devices. -/
theorem toks_moved : (bigSep Finset.univ fun c : Dev nD => (toks c : sProp 𝕄)) = bigSep Finset.univ fun c : Dev nD => payToks c := by
  unfold toks payToks
  rw [bigSep_univ_comm, bigSep_univ_comm fun (c : Dev nD) (t : Pay) => (tok (up c (hop t)) t : sProp 𝕄)]
  exact bigSep_congr fun t _ => bigSep_univ_equiv (shift (hop t)) fun c : Dev nD => (tok c t : sProp 𝕄)

theorem regroup :
    (bigSep Finset.univ fun c : Dev nD => iprop((bigSep Finset.univ fun k => iprop(∃ κ : ℕ, cellInv ER (sched m) κ (kcell (c, k))))
          ∗ (bigSep Finset.univ fun k : Kind => atPos ER (kcell (c, k)) 0 ∅ 0) ∗ (bigSep Finset.univ fun k : Kind => reached ER (kcell (c, k)) 0) ∗ toks c) : sProp 𝕄)
      ⊢ bigSep Finset.univ (G' m) := by
  rw [bigSep_sep', bigSep_sep', bigSep_sep', toks_moved, ← bigSep_univ_prod (fun ck : Dev nD × Kind => iprop(∃ κ : ℕ, cellInv ER (sched m) κ (kcell ck))),
    ← bigSep_univ_prod (fun ck : Dev nD × Kind => (reached ER (kcell ck) 0 : sProp 𝕄))]
  iintro ⟨HI, Hat, #HR, Htok⟩
  ihave HK := (BI.bigSep_exists_pi Finset.univ (fun (ck : Dev nD × Kind) (κ : ℕ) => (cellInv ER (sched m) κ (kcell ck) : sProp 𝕄))) $$ HI
  icases HK with ⟨%K, #HI⟩
  iapply (bigSep_with_persistent (R := marks m K) (Φ := own) (Ψ := G' m) fun c _ => by unfold G'; iintro H; iexists K; iexact H)
  isplitr
  · unfold marks; isplitl; · iexact HI
    iexact HR
  · unfold own; rw [bigSep_sep']
    isplitl [Hat] <;> iassumption

/-- From all semaphores at zero and all that was created: the invariants set up and everything dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## A device's deal, spelled out -/

/-- Its positions at the semaphores of a segment and shift. -/
def posAt (c : Dev nD) (r : Fin 2) (j : Fin 4) : sProp 𝕄 :=
  iprop(atPos ER (xcell c 0 r j) 0 ∅ 0 ∗ atPos ER (xcell c 1 r j) 0 ∅ 0 ∗ atPos ER (xcell c 2 r j) 0 ∅ 0 ∗ atPos ER (xcell c 3 r j) 0 ∅ 0)
/-- The tokens it pays with there. -/
def payAt (c : Dev nD) (r : Fin 2) (j : Fin 4) : sProp 𝕄 :=
  iprop(dutyTok ER (xcell c 0 r j) 0 0 ∗ dutyTok ER (xcell (up c j) 1 r j) 0 0 ∗ dutyTok ER (xcell c 2 r j) 0 0 ∗ dutyTok ER (xcell (up c j) 3 r j) 0 0)
/-- The credits of the two arrivals there. -/
def credAt (c : Dev nD) (r : Fin 2) (j : Fin 4) : sProp 𝕄 :=
  iprop(cred (tallyAt (xcell c 1 r j) () N) ∗ cred (tallyAt (xcell c 3 r j) () N))

omit [FloatOps F] in
theorem part_intro (c : Dev nD) (r : Fin 2) (j : Fin 4) : iprop(posAt c r j ∗ payAt c r j ∗ credAt c r j) ⊢ (part c r j : sProp 𝕄) := by
  unfold posAt payAt credAt part ticket awaits
  iintro ⟨⟨A0, A1, A2, A3⟩, ⟨T0, T1, T2, T3⟩, C1, C3⟩
  isplitl [A0 T0 T1]
  · isplitl [T0]; · iexact T0
    isplitl [T1]; · iexact T1
    iexact A0
  isplitl [A1 C1]
  · isplitl [C1]; · iexact C1
    iexact A1
  isplitl [A2 T2 T3]
  · isplitl [T2]; · iexact T2
    isplitl [T3]; · iexact T3
    iexact A2
  isplitl [C3]; · iexact C3
  iexact A3

omit [FloatOps F] in
theorem pos_eq (c : Dev nD) : (bigSep Finset.univ fun k : Kind => (atPos ER (kcell (c, k)) 0 ∅ 0 : sProp 𝕄))
    = iprop(atPos ER (barCell c) 0 ∅ 0 ∗ posAt c 0 2 ∗ posAt c 0 1 ∗ posAt c 0 3 ∗ posAt c 1 2 ∗ posAt c 1 1 ∗ posAt c 1 3 ∗ posAt c 0 0 ∗ posAt c 1 0) := by
  unfold posAt
  rw [BI.bigSep_univ_sum, over_unit, bigSep_univ_prod]
  simp only [over_roles]
  rw [over_chans]
  rfl

omit [FloatOps F] in
theorem pay_eq (c : Dev nD) : (payToks c : sProp 𝕄)
    = iprop((dutyTok ER (barCell (up c 0)) 0 0 ∗ dutyTok ER (barCell (up c 3)) 0 1 ∗ dutyTok ER (barCell (up c 2)) 0 2 ∗ dutyTok ER (barCell (up c 1)) 0 3)
      ∗ payAt c 0 2 ∗ payAt c 0 1 ∗ payAt c 0 3 ∗ payAt c 1 2 ∗ payAt c 1 1 ∗ payAt c 1 3 ∗ payAt c 0 0 ∗ payAt c 1 0) := by
  have h (r : Fin 2) (j : Fin 4) : (iprop(tok (up c (hop (.inr ((r, j), 0)))) (.inr ((r, j), 0)) ∗ tok (up c (hop (.inr ((r, j), 1)))) (.inr ((r, j), 1))
      ∗ tok (up c (hop (.inr ((r, j), 2)))) (.inr ((r, j), 2)) ∗ tok (up c (hop (.inr ((r, j), 3)))) (.inr ((r, j), 3))) : sProp 𝕄) = payAt c r j := by
    unfold payAt tok
    rw [show hop (.inr ((r, j), 0)) = 0 from rfl, show hop (.inr ((r, j), 2)) = 0 from rfl, up_zero]
    rfl
  unfold payToks
  rw [BI.bigSep_univ_sum, bigSep_univ_prod, over_roles]
  simp only [over_roles]
  rw [over_chans]
  simp only [h]
  rfl

/-- The credits a device starts with: three units at its barrier, one segment at each arrival. -/
theorem cred_eq (c : Dev nD) : (Pipeline.launchCred (fun d => owesL d payments) c : sProp 𝕄)
    ⊢ iprop(cred (tallyAt (barCell c) () 3) ∗ credAt c 0 2 ∗ credAt c 0 1 ∗ credAt c 0 3 ∗ credAt c 1 2 ∗ credAt c 1 1 ∗ credAt c 1 3) := by
  rw [Pipeline.launchCred_of_sum (fun d => owesL d payments) (fun d => dueL d payments) (sum_owesL payments) (fun d g h => dueL_core d payments g h) c]
  have h3 : (tallyAt (barCell c) () 3 : CellTallies nD τ sig Unit) = ((0 + tallyAt (barCell c) () 1) + tallyAt (barCell c) () 1) + tallyAt (barCell c) () 1 := by
    rw [zero_add, tallyAt_add, tallyAt_add]
  have hs : (dueL c payments : CellTallies nD τ sig Unit) = tallyAt (barCell c) () 3
      + ((tallyAt (xcell c 1 0 2) () N + tallyAt (xcell c 3 0 2) () N)
      + ((tallyAt (xcell c 1 0 1) () N + tallyAt (xcell c 3 0 1) () N)
      + ((tallyAt (xcell c 1 0 3) () N + tallyAt (xcell c 3 0 3) () N)
      + ((tallyAt (xcell c 1 1 2) () N + tallyAt (xcell c 3 1 2) () N)
      + ((tallyAt (xcell c 1 1 1) () N + tallyAt (xcell c 3 1 1) () N)
      + (tallyAt (xcell c 1 1 3) () N + tallyAt (xcell c 3 1 3) () N)))))) := by
    rw [h3]
    simp only [payments, dueL, units]
    dsimp only [kcell, csem, barCell, xcell]
    simp only [zero_add]
    ac_rfl
  rw [hs]
  unfold credAt
  iintro H
  icases (cred_add _ _).1 $$ H with ⟨HB, H⟩
  icases (cred_add _ _).1 $$ H with ⟨HA2, H⟩
  icases (cred_add _ _).1 $$ H with ⟨HA1, H⟩
  icases (cred_add _ _).1 $$ H with ⟨HA3, H⟩
  icases (cred_add _ _).1 $$ H with ⟨HB2, H⟩
  icases (cred_add _ _).1 $$ H with ⟨HB1, HB3⟩
  isplitl [HB]; · iexact HB
  isplitl [HA2]; · iapply (cred_add _ _).1; iexact HA2
  isplitl [HA1]; · iapply (cred_add _ _).1; iexact HA1
  isplitl [HA3]; · iapply (cred_add _ _).1; iexact HA3
  isplitl [HB2]; · iapply (cred_add _ _).1; iexact HB2
  isplitl [HB1]; · iapply (cred_add _ _).1; iexact HB1
  iapply (cred_add _ _).1; iexact HB3

/-- What a device was dealt, with its credits and the levels, is what the kernel starts from. -/
theorem start_of (c : Dev nD) : iprop(levAts L lv ∗ Pipeline.launchCred (fun d => owesL d payments) c ∗ G' m c) ⊢ start m c := by
  unfold G' marks own start ghost
  iintro ⟨Hlev, Hcr, ⟨%K, ⟨HI, HR⟩, Hat, Htok⟩⟩
  ihave Hc := (cred_eq (F := F) c) $$ Hcr
  icases Hc with ⟨CB, CA2, CA1, CA3, CB2, CB1, CB3⟩
  ihave Ha := (Entails.of_eq (pos_eq (F := F) c)) $$ Hat
  icases Ha with ⟨PB, PA2, PA1, PA3, PB2, PB1, PB3, PA0, PB0⟩
  ihave Ht := (Entails.of_eq (pay_eq (F := F) c)) $$ Htok
  icases Ht with ⟨⟨-, T3, T2, T1⟩, TA2, TA1, TA3, TB2, TB1, TB3, -, -⟩
  iexists K
  isplitl [HI HR Hlev]
  · unfold records
    isplitl [HI]; · iexact HI
    isplitl [HR] <;> iassumption
  isplitl [T1 T2 T3 CB PB]
  · unfold barPart
    isplitl [T1]; · iexact T1
    isplitl [T2]; · iexact T2
    isplitl [T3]; · iexact T3
    isplitl [CB] <;> iassumption
  isplitl [PA2 TA2 CA2]
  · iapply (part_intro c 0 2); isplitl [PA2]; · iexact PA2
    isplitl [TA2] <;> iassumption
  isplitl [PA1 TA1 CA1]
  · iapply (part_intro c 0 1); isplitl [PA1]; · iexact PA1
    isplitl [TA1] <;> iassumption
  isplitl [PA3 TA3 CA3]
  · iapply (part_intro c 0 3); isplitl [PA3]; · iexact PA3
    isplitl [TA3] <;> iassumption
  isplitl [PB2 TB2 CB2]
  · iapply (part_intro c 1 2); isplitl [PB2]; · iexact PB2
    isplitl [TB2] <;> iassumption
  isplitl [PB1 TB1 CB1]
  · iapply (part_intro c 1 1); isplitl [PB1]; · iexact PB1
    isplitl [TB1] <;> iassumption
  isplitl [PB3 TB3 CB3]
  · iapply (part_intro c 1 3); isplitl [PB3]; · iexact PB3
    isplitl [TB3] <;> iassumption
  unfold idle
  isplitl [PA0]; · unfold posAt; iexact PA0
  unfold posAt; iexact PB0

end Cert.AllReduce

end
-- ==== Proof.Run.lean ====
/-
The run: from any memory and counters at zero every execution ends, with the result's array on every device holding the
sums, the input as it was, and all counters at zero.
-/
module

public import proofs.«01_k».proof.Proof.Body
public import proofs.«01_k».proof.Proof.Deal
public import Idealize.ShloMosaic.Lib.Pipeline.CollectiveSegs

@[expose] public section

set_option maxRecDepth 16384

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the start: as given, every counter at zero. -/
def st₀ : MemSt nD τ sig (Elt F) := ⟨m, fun _ => 0, ρ⟩

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owesL d payments) c ∗ prngReg c (ρ c) ∗ G' m c)
      ⊢ |={Set.univ}=> iprop(start m c ∗ emp) := by
  iintro ⟨-, Hlev, Hcr, -, HG⟩
  imodintro
  isplitl
  · iapply (start_of m c)
    isplitl [Hlev]; · iexact Hlev
    isplitl [Hcr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁
  iintro ⟨Hx, Hr, Hs, Hb⟩
  isplitl [Hb]; · iexact Hb
  isplitl [Hs]; · iexact Hs
  isplitl [Hx] <;> iassumption

/-- The waits on the staging buffers' semaphores, below everything owed. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ payments (by fin_cases w <;> fin_cases s <;> decide)
    · show _ ⊢ MayWait (c : Thread nD τ) _ () 0
      rw [MayWait_zero]; iintro -; iempintro

/-- An array after the run. -/
def finalA (c : Dev nD) (w : Fin cfg0.W) : Buf (Elt F) ((cfg0.win w).arr.view.loc (c : Thread nD τ)) := (dats m 0 c).arrAt w cfg0.N

/-- The memory after the run. -/
def QC : PUnit × MemSt nD τ sig (Elt F) → Prop := fun r =>
  ∀ c : Dev nD, ∀ w : Fin cfg0.W, r.2.mem ((cfg0.win w).arr.view.loc (c : Thread nD τ)) = finalA m c w

/-- On four devices, for any float values, from any memory with counters at zero: every fair execution ends, each array holding what was computed for it
    and every counter at zero. -/
theorem run_main : θ_run defs (onTc (τ := τ) (main (F := F))) (st₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := fun c => owesL c payments) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array after the run is as before. -/
theorem finalA_in (c : Dev nD) : finalA m c (0 : Fin 2) = m (win0_0.arr.view.loc (c : Thread nD τ)) :=
  (dats (F := F) m 0 c).arrAt_in (0 : Fin 2) rfl _

end Cert.AllReduce

end
-- ==== Proof.Same.lean ====
/-
The kernel and its ideal program have one text: they call the same functions, over any float values.
-/
module

public import proofs.«01_k».proof.Proof.Gen.Kernel
public import proofs.«01_k».proof.Proof.Gen.KernelIdeal

@[expose] public section

set_option maxRecDepth 16384

noncomputable section

namespace Cert.AllReduce

open Idealize.ShloMosaic

variable {F : FTy → Type} [FloatOps F]

/-- The kernel's body is the ideal program's, at each grid point and staging buffer. -/
theorem bodies_same : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) => rfl

/-- So the two programs run the same functions. -/
theorem defs_same : Cert.Kernel.defs (F := F) = Cert.KernelIdeal.defs (F := F) :=
  congrArg (Pipeline.defs Cert.KernelIdeal.pcfgs) bodies_same

end Cert.AllReduce

end
-- ==== Proof.Arrays.lean ====
/-
What the arrays hold: the staging buffer starts as the device's whole input, and the result array ends as the whole of what
the kernel leaves in the result's staging buffer.
-/
module

public import proofs.«01_k».proof.Proof.Run

@[expose] public section

set_option maxRecDepth 16384

noncomputable section

namespace Cert.AllReduce

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The input's one block is the whole array, each element in its place. -/
theorem emb_in (t : Fin cfg0.N) (x : S1024x512.Idx) : (win0_0.blk t).view.emb x = x := by
  funext a
  apply Fin.ext
  show 0 * S1024x512.size a + 1 * (x a).val = (x a).val
  omega

/-- The result's one block is the whole array, each element in its place. -/
theorem emb_out (t : Fin cfg0.N) (x : S1024x512.Idx) : (win0_1.blk t).view.emb x = x := by
  funext a
  apply Fin.ext
  show 0 * S1024x512.size a + 1 * (x a).val = (x a).val
  omega

omit [FloatOps F] in
/-- A device's staging buffer holds its whole input. -/
theorem xstg_eq (c : Dev nD) : xstg m c = m ((c : Thread nD τ).loc main_arg0) :=
  funext fun i => congrArg (m ((c : Thread nD τ).loc main_arg0)) (emb_in t₀ i)

/-- What is written back to the result array is the sum. -/
theorem flushed_out (c : Dev nD) (t : Fin cfg0.N) :
    (dats (F := F) m 0 c).flushed 1 t = ((cfg0.win 1).blk t).view.read (Elt F) (outC m) :=
  funext fun x => (congrArg (outC m) (emb_out t x)).symm

/-- The result's array ends, on every device, holding the sum. -/
theorem finalA_out (c : Dev nD) : finalA m c (1 : Fin 2) = outC m :=
  (dats (F := F) m 0 c).arrAt_eq_of_cover (1 : Fin 2) (outC m) (fun t _ => flushed_out m c t)
    fun i => ⟨t₀, flush0_1 _, (congrArg (· ∈ ((cfg0.win 1).blk t₀).view.set) (emb_out t₀ i)).mp (View.emb_mem_set _ _)⟩

/-- The run, by the names of the arrays: every device's result is the sum, its input is kept, and all counters are at zero. -/
theorem run_arrays (ρ : Dev nD → PrngReg) :
    θ_run (defs (F := F)) (onTc (τ := τ) (main (F := F))) ⟨m, fun _ => 0, ρ⟩ (fun r =>
      (∀ c : Dev nD, r.2.mem (c.tc.loc main_v1) = outC m ∧ r.2.mem (c.tc.loc main_arg0) = m (c.tc.loc main_arg0))
        ∧ r.2.sem = fun _ => 0) :=
  (θ_run defs _ _).mono (fun _ h => ⟨fun c => ⟨(h.1 c 1).trans (finalA_out m c), (h.1 c 0).trans (finalA_in m c)⟩, h.2⟩)
    (run_main m ρ)

end Cert.AllReduce

end
-- ==== Proof.Reference.lean ====
/-
What the reference computes, with exact arithmetic: at row `i` and column `k`, the sum over the four row blocks of its input of
the element at row `i` of the block and column `k`.
-/
module

public import proofs.«01_k».proof.Proof.Gen.ReferenceIdeal.Run
public import Idealize.ShloMosaic.Lib.Pointwise.Reduce
public import Idealize.ShloMosaic.Lib.ValueIdx
public import Idealize.ShloMosaic.Lib.ValueLayout
public import Idealize.ShloMosaic.Lib.Quiescent
public import Idealize.ShloMosaic.PureOps.Ideal.Laws

@[expose] public section

set_option maxRecDepth 16384

noncomputable section

namespace Cert.AllReduce

open Cert.ReferenceIdeal Cert.ReferenceIdeal.Gen
open Idealize.ShloMosaic Idealize.ShloMosaic.TcCoe
open Idealize.SL.Sem

set_option backward.proofsInPublic true in
/-- Row `y` of row block `k` of the whole array. -/
def blockIx (k : Fin 4) (y : Fin 1024) (z : Fin 512) : S4096x512.Idx :=
  ValueIdx.ix2 (n0 := 4096) (n1 := 512) ⟨1024 * k.val + y.val, by omega⟩ z

/-- The reference's result, of its argument. -/
def refOut (x : FVec Ideal S4096x512 .bf16) : FVec Ideal S1024x512 .bf16 :=
  truncf .bf16 (Host.reduceAdd (extf .f32 (shapeCast _ x shapeCasts_S4096x512_S4x1024x512) bitsLt_bf16_f32)
    (constant S_ .f32 0x00000000#32) reducesTo_S4x1024x512_S1024x512_d0 h_S_) bitsLt_bf16_f32

/-- The argument read as four row blocks. -/
theorem cast_apply (x : FVec Ideal S4096x512 .bf16) (k : Fin 4) (y : Fin 1024) (z : Fin 512) :
    shapeCast S4x1024x512 x shapeCasts_S4096x512_S4x1024x512 (ValueIdx.ix3 k y z) = x (blockIx k y z) :=
  shapeCast_apply x _ _ _ (by
    rw [Shape.rowMajor_val_three, Shape.rowMajor_val_two]
    show (1024 * k.val + y.val) * 512 + z.val = (k.val * 1024 + y.val) * 512 + z.val
    omega)

/-- The reference's result at an element: the sum over the four row blocks. -/
theorem refOut_apply (x : FVec Ideal S4096x512 .bf16) (y : Fin 1024) (z : Fin 512) :
    (refOut x (ValueIdx.ix2 y z) : EReal) = ∑ k : Fin 4, (x (blockIx k y z) : EReal) := by
  refine (Ideal.hostReduceAdd_r3_a0 reducesTo_S4x1024x512_S1024x512_d0
    (fun i => (shapeCast S4x1024x512 x shapeCasts_S4096x512_S4x1024x512 i : EReal)) (Ideal.ofBits .f32 0x00000000#32) (ValueIdx.ix2 y z)).trans ?_
  rw [Ideal.ofBits_zero_f32, zero_add]
  exact Finset.sum_congr rfl fun k _ => cast_apply x k y z

/-- The reference's run: its result is `refOut` of its argument, the argument is kept, and all counters are at zero. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem (c.tc.loc main_v3) = refOut (m (c.tc.loc main_arg0)) ∧ r.2.mem (c.tc.loc main_arg0) = m (c.tc.loc main_arg0))
        ∧ r.2.sem = fun _ => 0) :=
  (θ_run defs _ _).mono (fun r h => ⟨h, sem_eq_zero_of_no_sems (by decide) r.2⟩) (Value.run m ρ)

end Cert.AllReduce

end
-- ==== Proof.Value.lean ====
/-
What the kernel computes, with exact arithmetic: each segment of the result, at each element, is the sum of the four devices'
inputs at that element.
-/
module

public import proofs.«01_k».proof.Proof.Arrays
public import Idealize.ShloMosaic.Lib.ValueIdx
public import Idealize.ShloMosaic.Lib.ValueLayout
public import Idealize.ShloMosaic.PureOps.Ideal.Laws

@[expose] public section

set_option maxRecDepth 16384

noncomputable section

namespace Cert.AllReduce

open Cert.KernelIdeal Cert.KernelIdeal.Gen
open Idealize.ShloMosaic Idealize.ShloMosaic.TcCoe Idealize.ShloMosaic.ValueIdx

variable (m : (ℓ : Loc nD τ sig) → Buf (Elt Ideal) ℓ)

/-- Device `d`'s input, its elements as extended reals. -/
def input (d : Dev nD) : S1024x512.Idx → EReal := m ((d : Thread nD τ).loc main_arg0)

/-- Going back by each of the four shifts reaches each device once. -/
theorem dn_bijective : ∀ b : Dev nD, Function.Bijective (dn b) := by decide

/-- A sum over the devices, taken from device `b` backwards. -/
theorem sum_from {M : Type} [AddCommMonoid M] (b : Dev nD) (X : Dev nD → M) :
    X b + X (dn b 1) + X (dn b 2) + X (dn b 3) = ∑ d : Dev nD, X d := by
  have h : ∑ j : Fin 4, X (dn b j) = ∑ d : Dev nD, X d := Fintype.sum_bijective (dn b) (dn_bijective b) _ _ fun _ => rfl
  have h0 : dn b 0 = b := up_zero b
  rw [← h, Fin.sum_univ_four, h0]

/-- One segment's arithmetic at an element: its own block's element and the three received ones', added. -/
theorem pay_apply (a : FVec Ideal S128x512 .bf16) (u v w : FVec Ideal S1x128x512 .bf16) (y : Fin 128) (z : Fin 512) :
    (k0_pay2 (F := Ideal) a u v w (ix2 y z) : EReal)
      = a (ix2 y z) + u (ix3 (0 : Fin 1) y z) + v (ix3 (0 : Fin 1) y z) + w (ix3 (0 : Fin 1) y z) := by
  show (shapeCast S128x512 a _ (ix2 y z) + shapeCast S128x512 u _ (ix2 y z) + shapeCast S128x512 v _ (ix2 y z) + shapeCast S128x512 w _ (ix2 y z) : EReal) = _
  rw [shapeCast_self, shapeCast_1ab_ab_apply, shapeCast_1ab_ab_apply, shapeCast_1ab_ab_apply]

/-- A segment of the staging buffer, loaded. -/
theorem load_in (b : Dev nD) (r : Fin 2) (x : S128x512.Idx) :
    inM.view.readAt (Elt Ideal) (rowRect b r).toLoadRect (xstg m b) x = input m b (rowIx b r x) :=
  (congrArg (xstg m b) (emb_row b r x)).trans (congrFun (xstg_eq m b) _)

/-- A segment of the receive buffer, loaded: it is the sender's segment. -/
theorem load_rs (b : Dev nD) (j : Fin 4) (r : Fin 2) (y : Fin 128) (z : Fin 512) :
    rsM.view.readAt (Elt Ideal) (slotRect j r).toLoadRect (rsC m b) (ix3 (0 : Fin 1) y z) = input m (dn b j) (rowIx b r (ix2 y z)) := by
  refine Eq.trans (congrArg (rsC m b) ?_) ((rsC_slot m b j r (ix2 y z)).trans (congrFun (xstg_eq m (dn b j)) _))
  funext a
  apply Fin.ext
  fin_cases a
  · show j.val + 1 * 0 = j.val; omega
  · show 128 * r.val + 1 * y.val = 128 * r.val + y.val; omega
  · show 0 + 1 * z.val = z.val; omega

/-- A segment of the result: at each element, the sum of the four devices' inputs there. -/
theorem redSeg_apply (b : Dev nD) (r : Fin 2) (x : S128x512.Idx) :
    (redSeg m b r x : EReal) = ∑ d : Dev nD, input m d (rowIx b r x) := by
  obtain ⟨y, z, rfl⟩ : ∃ (y : Fin 128) (z : Fin 512), x = ix2 y z := ⟨x 0, x 1, eq_ix2 (n0 := 128) (n1 := 512) x⟩
  rw [← sum_from b fun d => input m d (rowIx b r (ix2 y z))]
  unfold redSeg
  refine (pay_apply _ _ _ _ y z).trans ?_
  rw [load_in, load_rs, load_rs, load_rs]

/-- Every element of an array lies in a segment. -/
theorem exists_row (i : S1024x512.Idx) : ∃ (b : Dev nD) (r : Fin 2) (x : S128x512.Idx), rowIx b r x = i := by
  have h : (i 0).val < 1024 := (i 0).isLt
  refine ⟨⟨(i 0).val / 256, by show _ < 4; omega⟩, ⟨(i 0).val % 256 / 128, by omega⟩,
    ix2 (n0 := 128) (n1 := 512) ⟨(i 0).val % 128, by omega⟩ (i 1), ?_⟩
  funext a
  apply Fin.ext
  fin_cases a
  · show 256 * ((i 0).val / 256) + 128 * ((i 0).val % 256 / 128) + (i 0).val % 128 = (i 0).val; omega
  · rfl

/-- The result at an element: the sum of the four devices' inputs there. -/
theorem outC_apply (i : S1024x512.Idx) :
    (outC m i : EReal) = ∑ d : Dev nD, input m d i := by
  obtain ⟨b, r, x, rfl⟩ := exists_row i
  rw [outC_row, redSeg_apply]

end Cert.AllReduce

end
-- ==== Proof.Equation.lean ====
/-
The equation: when the four devices' inputs are the four row blocks of the reference's argument, what every device ends with is
the reference's result.
-/
module

public import proofs.«01_k».proof.Proof.Value
public import proofs.«01_k».proof.Proof.Reference
public import Idealize.ShloMosaic.Lib.Layout

@[expose] public section

set_option maxRecDepth 16384

noncomputable section

namespace Cert.AllReduce

open Idealize.ShloMosaic Idealize.ShloMosaic.TcCoe

/-- A device's block of an array, at an element. -/
theorem block_row (d : Fin 4) (x : FVec Ideal ⟨2, ![4096, 512]⟩ .bf16) (y : Fin 1024) (z : Fin 512) :
    Layout.block ⟨2, ![1024, 512]⟩ ⟨2, ![4096, 512]⟩ 0 4 d x (by decide) (ValueIdx.ix2 y z) = x (blockIx d y z) := by
  refine congrArg x ?_
  funext a
  apply Fin.ext
  fin_cases a
  · show d.val * 1024 + y.val = 1024 * d.val + y.val; omega
  · rfl

/-- The kernel's result is the reference's. -/
theorem outC_eq_refOut (m : (ℓ : Loc KernelIdeal.nD KernelIdeal.τ KernelIdeal.sig) → Buf (Elt Ideal) ℓ)
    (x : FVec Ideal ⟨2, ![4096, 512]⟩ .bf16)
    (hx : ∀ d : Dev KernelIdeal.nD, m ((d : Thread KernelIdeal.nD KernelIdeal.τ).loc KernelIdeal.main_arg0)
      = Layout.block ⟨2, ![1024, 512]⟩ ⟨2, ![4096, 512]⟩ 0 4 d x (by decide)) :
    outC m = refOut x := by
  funext i
  obtain ⟨y, z, rfl⟩ : ∃ (y : Fin 1024) (z : Fin 512), i = ValueIdx.ix2 y z := ⟨i 0, i 1, ValueIdx.eq_ix2 (n0 := 1024) (n1 := 512) i⟩
  have h : ∑ d : Fin 4, input m d (ValueIdx.ix2 y z) = ∑ d : Fin 4, (x (blockIx d y z) : EReal) :=
    Finset.sum_congr rfl fun d _ => (congrFun (hx d) _).trans (block_row d x y z)
  exact (outC_apply m _).trans (h.trans (refOut_apply x y z).symm)

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Arrays
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.SL.Sem

/-- The kernel on float words: every run ends, keeps its input and leaves every counter at zero. The kernel and its ideal
    program have one text, so this is the ideal program's run at float words. -/
theorem frame_kernel : Cert.quiescent_Kernel := fun m ρ _ => by
  have h := (θ_run (Cert.KernelIdeal.defs (F := Bits)) _ _).mono (fun r h => (⟨fun c => (h.1 c).2, h.2⟩ :
    (∀ c : Dev Cert.KernelIdeal.nD, r.2.mem (c.tc.loc Cert.KernelIdeal.main_arg0) = m (c.tc.loc Cert.KernelIdeal.main_arg0))
      ∧ r.2.sem = fun _ => 0)) (Cert.AllReduce.run_arrays (F := Bits) m ρ)
  rw [Cert.AllReduce.defs_same]
  exact h

/-- The same of the kernel over the extended reals. -/
theorem frame_kernelIdeal : Cert.quiescent_KernelIdeal := fun m ρ _ =>
  (θ_run Cert.KernelIdeal.defs _ _).mono (fun _ h => ⟨fun c => (h.1 c).2, h.2⟩) (Cert.AllReduce.run_arrays (F := Ideal) m ρ)

/-- The same of the reference, which has no semaphores. -/
theorem frame_referenceIdeal : Cert.quiescent_ReferenceIdeal := fun m ρ _ =>
  (θ_run Cert.ReferenceIdeal.defs _ _).mono (fun _ h => ⟨fun c => (h.1 c).2, h.2⟩) (Cert.AllReduce.ref_run m ρ)

/-- Kernel and reference compute one function: every device's result is the reference's, whatever the inputs. -/
theorem algebraic : Cert.algebraic_KernelIdeal_ReferenceIdeal := fun m ρ m' ρ' _ hx =>
  ⟨Cert.AllReduce.refOut (m' ((0 : Dev Cert.ReferenceIdeal.nD).tc.loc Cert.ReferenceIdeal.main_arg0)),
    (θ_run Cert.KernelIdeal.defs _ _).mono
      (fun _ h c => ⟨(h.1 c).1.trans (Cert.AllReduce.outC_eq_refOut m _ hx), (h.1 c).2⟩) (Cert.AllReduce.run_arrays m ρ),
    (θ_run Cert.ReferenceIdeal.defs _ _).mono (fun _ h => h.1 0) (Cert.AllReduce.ref_run m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
